-- ==== Defs.lean ====
def Pre_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1230_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1230_Kernel [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1230_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel_pi_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1230_Kernel [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1230_Kernel [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1230_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1230_Kernel : Cert.Pre_pi_1230_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2301_Kernel : Cert.Pre_pi_2301_Kernel.Facts) (hPre_pi_2310_Kernel : Cert.Pre_pi_2310_Kernel.Facts) (hPre_pi_3012_Kernel : Cert.Pre_pi_3012_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1230_ReferenceIdeal : Cert.Pre_pi_1230_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2301_ReferenceIdeal : Cert.Pre_pi_2301_ReferenceIdeal.Facts) (hPre_pi_2310_ReferenceIdeal : Cert.Pre_pi_2310_ReferenceIdeal.Facts) (hPre_pi_3012_ReferenceIdeal : Cert.Pre_pi_3012_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts),
    quiescent_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1230_Kernel (hKernel := hKernel) (hPre_pi_1230_Kernel := hPre_pi_1230_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2301_Kernel (hKernel := hKernel) (hPre_pi_2301_Kernel := hPre_pi_2301_Kernel)
    ∧ quiescent_Kernel_pre_pi_2310_Kernel (hKernel := hKernel) (hPre_pi_2310_Kernel := hPre_pi_2310_Kernel)
    ∧ quiescent_Kernel_pre_pi_3012_Kernel (hKernel := hKernel) (hPre_pi_3012_Kernel := hPre_pi_3012_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1230_Kernel (hKernelIdeal := hKernelIdeal) (hPre_pi_1230_Kernel := hPre_pi_1230_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2301_Kernel (hKernelIdeal := hKernelIdeal) (hPre_pi_2301_Kernel := hPre_pi_2301_Kernel)
    ∧ quiescent_KernelIdeal_pre_pi_2310_Kernel (hKernelIdeal := hKernelIdeal) (hPre_pi_2310_Kernel := hPre_pi_2310_Kernel)
    ∧ quiescent_KernelIdeal_pre_pi_3012_Kernel (hKernelIdeal := hKernelIdeal) (hPre_pi_3012_Kernel := hPre_pi_3012_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ quiescent_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ preserves_Kernel_KernelIdeal
    ∧ algebraic_KernelIdeal_ReferenceIdeal (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1230_Kernel (hKernelIdeal := hKernelIdeal) (hReferenceIdeal := hReferenceIdeal) (hPre_pi_1230_Kernel := hPre_pi_1230_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0123_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0132_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0132_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0213_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0213_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0231_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0231_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0312_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0312_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0321_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_0321_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1023_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1023_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1032_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1032_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1203_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1203_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1230_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1230_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1302_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1302_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1320_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_1320_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2013_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2013_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2031_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2031_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2103_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2103_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2130_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2130_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2301_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2301_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2310_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_2310_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3012_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3012_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3021_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3021_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3102_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3102_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3120_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3120_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3201_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3201_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3210_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x2048x1024 .bf16) (main_arg1 : IVec S4 32) : IVec S4 1 :=
  let main_c : IVec S4 32 := fun i => lit0 (S4.rowMajor i)
  let main_v0 : IVec S4 1 := cmpi .eq main_arg1 main_c
  main_v0
-- ==== Pre_pi_3210_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x2048x1024 .bf16) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x2048x1024 : Shape := ⟨3, ![1, 2048, 1024]⟩
abbrev S4 : Shape := ⟨1, ![4]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .bf16⟩
  | .hbm, ⟨1, _⟩ => ⟨S4, .i32⟩
  | .hbm, ⟨2, _⟩ => ⟨S1x2048x1024, .bf16⟩
  | .local _ .vmem, ⟨0, _⟩ => ⟨S1x2048x1024, .bf16⟩
  | .local _ .vmem, ⟨1, _⟩ => ⟨S1x2048x1024, .bf16⟩
  | .local _ .smem, ⟨0, _⟩ => ⟨S4, .i32⟩
  | _, _ => ⟨S1x2048x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_dev1 (k0_t1 : Fin k0_t1_loop.trips) : Nat :=
  let c0_i32 : BitVec 32 := 0#32
  let c1_i32 : BitVec 32 := 1#32
  let arg5 : BitVec 32 := Scf.iv c0_i32 c1_i32 k0_t1
  arg5.toNat
def k0_off1 (d2 : Dev nD) : Fin 1 → Nat :=
  let v8 : BitVec 32 := Dev.word d2
  let c1_i32_4 : BitVec 32 := 1#32
  let v9 : BitVec 32 := Scalar.divsi v8 c1_i32_4
  let c4_i32_3 : BitVec 32 := 4#32
  let v10 : BitVec 32 := Scalar.remsi v9 c4_i32_3
  let v11 : Index := Scalar.indexCast v10
  ![v11.toNat]
def k0_dev2 (d2 : Dev nD) (v12 : BitVec 32) : Nat :=
  let c0_i32_6 : BitVec 32 := 0#32
  let v2 : BitVec 32 := Dev.word d2
  let c16_i32 : BitVec 32 := 16#32
  let v3 : BitVec 32 := Scalar.divsi v2 c16_i32
  let c2_i32 : BitVec 32 := 2#32
  let v4 : BitVec 32 := Scalar.remsi v3 c2_i32
  let c16_i32_5 : BitVec 32 := 16#32
  let v13 : BitVec 32 := Scalar.muli v4 c16_i32_5
  let v14 : BitVec 32 := Scalar.addi c0_i32_6 v13
  let v5 : BitVec 32 := Dev.word d2
  let c4_i32_2 : BitVec 32 := 4#32
  let v6 : BitVec 32 := Scalar.divsi v5 c4_i32_2
  let c4_i32 : BitVec 32 := 4#32
  let v7 : BitVec 32 := Scalar.remsi v6 c4_i32
  let c4_i32_7 : BitVec 32 := 4#32
  let v15 : BitVec 32 := Scalar.muli v7 c4_i32_7
  let v16 : BitVec 32 := Scalar.addi v14 v15
  let c1_i32_8 : BitVec 32 := 1#32
  let v17 : BitVec 32 := Scalar.muli v12 c1_i32_8
  let v18 : BitVec 32 := Scalar.addi v16 v17
  v18.toNat

def k0_chk1 (d2 : Dev nD) (v12 : BitVec 32) : Prop :=
  ((k0_dev2 d2 v12) < nD)
theorem k0_dev2_lt : ∀ (d2 : Dev nD) (v12 : BitVec 32) (k0_hw1 : k0_chk1 d2 v12), (k0_dev2 d2 v12) < nD := fun d2 v12 k0_hw1 => k0_hw1

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x1024 : Shape := ⟨3, ![4, 2048, 1024]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x2048x1024, .bf16⟩
  | .hbm, ⟨14, _⟩ => ⟨S4x2048x1024, .f32⟩
  | .hbm, ⟨15, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Route.lean ====
/-
# Where each device sends

The 32 devices form eight groups of four along the axis `z`: device `c` is number `c % 4` of group `c / 4`. For a
permutation `σ` of the four numbers, `hop σ` sends device `c` to number `σ (c % 4)` of its own group. This module
states that permutation of the devices and that the device number the kernel computes from its own number and the
word `σ (c % 4)` of its table is `hop σ c`.
-/
module

public import proofs.«01_k».proof.Proof.Gen.KernelIdeal

@[expose] public section

namespace Cert.Exchange

open Cert.KernelIdeal Cert.KernelIdeal.Gen
open Idealize.ShloMosaic

/-- Device `c`'s number in its group. -/
def lane (c : Dev nD) : Fin 4 := ⟨c.val % 4, Nat.mod_lt _ (by omega)⟩

/-- The device of `c`'s group whose number is the image of `c`'s. -/
def move (f : Fin 4 → Fin 4) (c : Dev nD) : Dev nD :=
  ⟨4 * (c.val / 4) + (f (lane c)).val, by
    have h : c.val < 32 := c.isLt
    have h' := (f (lane c)).isLt
    show _ < 32
    omega⟩

/-- The moved device's number is the image of the number. -/
theorem lane_move (f : Fin 4 → Fin 4) (c : Dev nD) : lane (move f c) = f (lane c) := by
  apply Fin.ext
  show (4 * (c.val / 4) + (f (lane c)).val) % 4 = _
  have h' := (f (lane c)).isLt
  omega

/-- Moving by a function and then by one that undoes it is staying. -/
theorem move_move (f g : Fin 4 → Fin 4) (h : ∀ k, g (f k) = k) (c : Dev nD) : move g (move f c) = c := by
  apply Fin.ext
  show 4 * ((4 * (c.val / 4) + (f (lane c)).val) / 4) + (g (lane (move f c))).val = c.val
  rw [lane_move, h]
  have h' := (f (lane c)).isLt
  show _ + c.val % 4 = _
  omega

/-- The permutation of the devices: within each group, by `σ`. -/
def hop (σ : Equiv.Perm (Fin 4)) : Equiv.Perm (Dev nD) where
  toFun := move σ
  invFun := move σ.symm
  left_inv := move_move _ _ σ.symm_apply_apply
  right_inv := move_move _ _ σ.apply_symm_apply

/-- The device number the kernel computes from a table word naming number `k`: `k` of its own group. -/
theorem dev2_val : ∀ (c : Dev nD) (k : Fin 4), k0_dev2 c (BitVec.ofNat 32 k.val) = 4 * (c.val / 4) + k.val := by
  decide +kernel

/-- With the word `σ` gives its own number, device `c` addresses `hop σ c`. -/
theorem dev2_hop (σ : Equiv.Perm (Fin 4)) (c : Dev nD) : k0_dev2 c (BitVec.ofNat 32 (σ (lane c)).val) = (hop σ c).val :=
  dev2_val c (σ (lane c))

/-- The entry of the four-word table that number `k` reads. -/
def entry (k : Fin 4) : S4.Idx := fun a => ⟨k.val, by fin_cases a; exact k.isLt⟩

end Cert.Exchange

end
-- ==== Proof.Protocol.lean ====
/-
# The exchange as a protocol of signals and copies

Every device signals every device's barrier semaphore once and waits for the 32 signals on its own; then it copies its
block of `x` into the result buffer of one device, waits for its own copy to have left and for one copy to have
arrived. Which device it copies to is a permutation `e` of the devices.

The proof follows the rounds discipline (each semaphore cell has one round of duties):

* the barrier cell of device `c` has one duty of one unit for every device `d`: the duty of `e c`, the device that `c`
  copies to, hands over `e c`'s result buffer, the others hand over nothing;
* the receive cell of `c` has one duty, paid by the copy into `c`, handing over `c`'s result buffer with the block that
  was sent;
* the send cell of `c` has one duty, paid by `c`'s own copy, handing `c` its block of `x` back.

So no device copies into a result buffer before its owner has entered the kernel and given the buffer away.
-/
module

public import proofs.«01_k».proof.Proof.Route
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (e : Equiv.Perm (Dev nD))
variable (m : (ℓ : Loc nD τ sig) → Buf (Elt F) ℓ) (ρ : Dev nD → PrngReg)

/-- The memory at launch: any contents, every counter zero, any generator registers. -/
def start₀ : MemSt nD τ sig (Elt F) := ⟨m, fun _ => 0, ρ⟩

/-! ## Buffers and cells -/

abbrev tM : Memref sig .tc .smem S4 .i32 := Memref.whole cc0_stg0_0
abbrev xM : Memref sig .tc .vmem S1x2048x1024 .bf16 := Memref.whole cc0_stg1_0
abbrev oM : Memref sig .tc .vmem S1x2048x1024 .bf16 := Memref.whole cc0_stg2_0

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The two semaphores the kernel is given: send, receive. -/
abbrev osem : Fin 2 → SemLoc sig := fun | 0 => .dma sendS.sem | 1 => .dma recvS.sem
/-- All three of the protocol: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- What one copy pays into a DMA semaphore. -/
def N : ℕ := (oM : Memref sig .tc .vmem S1x2048x1024 .bf16).view.dmaCredit
theorem N_pos : 0 < N := View.dmaCredit_pos _ (by decide)

/-! ## Contents -/

/-- Device `c`'s table as the kernel finds it; -/
def tstg (c : Dev nD) : (cc0_stg0_0 : Ref sig .tc).ty.Contents (Elt F) :=
  (win0_0.blk (0 : Fin 1)).view.read (Elt F) ((start₀ m ρ).mem ((c : Thread nD τ).loc main_arg1))
/-- its block of `x`; -/
def xstg (c : Dev nD) : (cc0_stg1_0 : Ref sig .tc).ty.Contents (Elt F) :=
  (win0_1.blk (0 : Fin 1)).view.read (Elt F) ((start₀ m ρ).mem ((c : Thread nD τ).loc main_arg0))
/-- and what its result buffer holds in the end: the block of the device that sends to it. -/
def outAt (c : Dev nD) : (cc0_stg2_0 : Ref sig .tc).ty.Contents (Elt F) := xstg m ρ (e.symm c)

/-- A copy of the whole block leaves the target holding the source. -/
theorem landed_eq (c : Dev nD) (fd : Buf (Elt F) ((oM : Memref sig .tc .vmem S1x2048x1024 .bf16).view.loc (c : Thread nD τ)))
    (fs : (cc0_stg1_0 : Ref sig .tc).ty.Contents (Elt F)) :
    (oM : Memref sig .tc .vmem S1x2048x1024 .bf16).view.write (Elt F) fd
      ((xM : Memref sig .tc .vmem S1x2048x1024 .bf16).view.read (Elt F) fs) Finset.univ = fs := by
  show (View.whole cc0_stg2_0).write (Elt F) fd ((View.whole cc0_stg1_0).read (Elt F) fs) Finset.univ = fs
  rw [View.read_whole]
  exact View.write_whole_univ _ _ _

/-- Device `c`'s result buffer, holding `f`; -/
def outPts (c : Dev nD) (f : Buf (Elt F) ((oM : Memref sig .tc .vmem S1x2048x1024 .bf16).view.loc (c : Thread nD τ))) : sProp 𝕄 :=
  (oM : Memref sig .tc .vmem S1x2048x1024 .bf16).view.loc (c : Thread nD τ)
    ↦[(oM : Memref sig .tc .vmem S1x2048x1024 .bf16).view.set]{fullShare} f
/-- its block of `x` where the kernel reads it. -/
def xPts (c : Dev nD) : sProp 𝕄 :=
  (xM : Memref sig .tc .vmem S1x2048x1024 .bf16).view.loc (c : Thread nD τ)
    ↦[(xM : Memref sig .tc .vmem S1x2048x1024 .bf16).view.set]{fullShare} xstg m ρ c
/-- Device `c`'s result buffer, whatever it holds. -/
def outFree (c : Dev nD) : sProp 𝕄 := iprop(∃ f, outPts (F := F) c f)

instance outPts_storable (c : Dev nD) (f) : BI.Storable (upEmb : UEmb _ 𝕄) (outPts (F := F) c f) := by
  unfold outPts; infer_instance
instance xPts_storable (c : Dev nD) : BI.Storable (upEmb : UEmb _ 𝕄) (xPts (F := F) m ρ c) := by
  unfold xPts; infer_instance
instance outFree_storable (c : Dev nD) : BI.Storable (upEmb : UEmb _ 𝕄) (outFree (F := F) c) := by
  unfold outFree; infer_instance

theorem outPts_eq (c : Dev nD) (f : Buf (Elt F) ((c : Thread nD τ).loc cc0_stg2_0)) :
    outPts c f = (((c : Thread nD τ).loc cc0_stg2_0) ↦{fullShare} f : sProp 𝕄) := by
  unfold outPts; rw [View.set_whole]
theorem xPts_eq (c : Dev nD) : xPts m ρ c = (((c : Thread nD τ).loc cc0_stg1_0) ↦{fullShare} xstg m ρ c : sProp 𝕄) := by
  unfold xPts; rw [View.set_whole]

/-! ## The schedule -/

/-- What the signal of device `d` hands to device `c`: the result buffer of `d` if `d` is the device `c` copies to,
    and otherwise nothing. -/
def barPay (c d : Dev nD) : sProp 𝕄 := if d = e c then outFree (F := F) d else iprop(emp)

instance barPay_storable (c d : Dev nD) : BI.Storable (upEmb : UEmb _ 𝕄) (barPay (F := F) e c d) := by
  unfold barPay; split <;> infer_instance

abbrev IsBar (g : GSem nD τ sig) : Prop := g.1.2 = .tc ∧ g.2 = .reg barS
abbrev IsCopy (g : GSem nD τ sig) : Prop := g.1.2 = .tc ∧ (g.2 = .dma sendS.sem ∨ g.2 = .dma recvS.sem)

/-- One round: a barrier cell has a unit duty for every device, a send or receive cell one duty of a copy's credit. -/
def sched : Rounds.Schedule (GSem nD τ sig) (Dev nD) 𝕄 where
  duties g r := if r = 0 ∧ IsBar g then Finset.univ else if r = 0 ∧ IsCopy g then {0} else ∅
  unitless _ := False
  amount g _ _ := if g.2 = .reg barS then 1 else N
  payload g _ d :=
    if g.2 = .reg barS then barPay (F := F) e g.1.1 d
    else if g.2 = .dma recvS.sem then outPts g.1.1 (outAt e m ρ g.1.1)
    else if g.2 = .dma sendS.sem then xPts m ρ g.1.1
    else iprop(emp)
  amount_pos g _ _ _ := by
    by_cases h : g.2 = .reg barS
    · rw [if_pos h]; exact Nat.one_pos
    · rw [if_neg h]; exact N_pos

instance sched_storable (g : GSem nD τ sig) (r : ℕ) (d : Dev nD) :
    BI.Storable (upEmb : UEmb _ 𝕄) ((sched (F := F) e m ρ).payload g r d) := by
  show BI.Storable upEmb (if g.2 = .reg barS then barPay (F := F) e g.1.1 d
    else if g.2 = .dma recvS.sem then outPts g.1.1 (outAt e m ρ g.1.1)
    else if g.2 = .dma sendS.sem then xPts m ρ g.1.1 else iprop(emp))
  (repeat' split) <;> infer_instance

section Cells
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

theorem duties_bar : (sched (F := F) e m ρ).duties (barCell c) 0 = Finset.univ := by
  dsimp only [sched]; exact if_pos ⟨rfl, rfl, rfl⟩
theorem duties_send : (sched (F := F) e m ρ).duties (sendCell c) 0 = {0} := by
  dsimp only [sched]; rw [if_neg (fun h => send_ne_bar h.2.2)]; exact if_pos ⟨rfl, rfl, .inl rfl⟩
theorem duties_recv : (sched (F := F) e m ρ).duties (recvCell c) 0 = {0} := by
  dsimp only [sched]; rw [if_neg (fun h => recv_ne_bar h.2.2)]; exact if_pos ⟨rfl, rfl, .inr rfl⟩
theorem duties_later (g : GSem nD τ sig) : ∀ r, 1 ≤ r → (sched (F := F) e m ρ).duties g r = ∅ :=
  fun r hr => by dsimp only [sched]; rw [if_neg fun h => by omega, if_neg fun h => by omega]

theorem amount_bar (d : Dev nD) : (sched (F := F) e m ρ).amount (barCell c) 0 d = 1 := by
  dsimp only [sched]; exact if_pos rfl
theorem amount_send (d : Dev nD) : (sched (F := F) e m ρ).amount (sendCell c) 0 d = N := by
  dsimp only [sched]; exact if_neg send_ne_bar
theorem amount_recv (d : Dev nD) : (sched (F := F) e m ρ).amount (recvCell c) 0 d = N := by
  dsimp only [sched]; exact if_neg recv_ne_bar

/-- A device waits for 32 signals: one from every device. -/
theorem expect_bar : (sched (F := F) e m ρ).expect (barCell c) 0 = 32 := by
  unfold Schedule.expect Schedule.amountOf
  rw [duties_bar, Finset.sum_congr rfl fun d _ => amount_bar e m ρ c d, Finset.sum_const, Finset.card_univ, Fintype.card_fin, smul_eq_mul]
  rfl
/-- A cell with the one duty `0` expects that duty's amount. -/
theorem expect_single (g : GSem nD τ sig) (hd : (sched (F := F) e m ρ).duties g 0 = {0})
    (ha : (sched (F := F) e m ρ).amount g 0 0 = N) : (sched (F := F) e m ρ).expect g 0 = N := by
  unfold Schedule.expect Schedule.amountOf; rw [hd, Finset.sum_singleton, ha]
theorem expect_send : (sched (F := F) e m ρ).expect (sendCell c) 0 = N :=
  expect_single e m ρ _ (duties_send e m ρ c) (amount_send e m ρ c 0)
theorem expect_recv : (sched (F := F) e m ρ).expect (recvCell c) 0 = N :=
  expect_single e m ρ _ (duties_recv e m ρ c) (amount_recv e m ρ c 0)

theorem payload_bar (d : Dev nD) : (sched (F := F) e m ρ).payload (barCell c) 0 d = barPay (F := F) e c d := by
  dsimp only [sched]; rw [if_pos rfl]
theorem payload_send (d : Dev nD) : (sched (F := F) e m ρ).payload (sendCell c) 0 d = xPts m ρ c := by
  dsimp only [sched]; rw [if_neg send_ne_bar, if_neg send_ne_recv, if_pos rfl]
theorem payload_recv (d : Dev nD) : (sched (F := F) e m ρ).payload (recvCell c) 0 d = outPts c (outAt e m ρ c) := by
  dsimp only [sched]; rw [if_neg recv_ne_bar, if_pos rfl]

/-- All that a device's barrier round hands over: in particular the result buffer of the device it copies to. -/
theorem rest_bar :
    bigSep ((sched (F := F) e m ρ).duties (barCell c) 0 \ ∅) (fun d => (sched (F := F) e m ρ).payload (barCell c) 0 d)
      ⊢ outFree (F := F) (e c) := by
  rw [Finset.sdiff_empty, duties_bar]
  have h : bigSep Finset.univ (fun d => (sched (F := F) e m ρ).payload (barCell c) 0 d)
      ⊢ (sched (F := F) e m ρ).payload (barCell c) 0 (e c) := bigSep_elim (Finset.mem_univ (e c))
  rw [payload_bar, barPay, if_pos rfl] at h
  exact h
theorem rest_send :
    bigSep ((sched (F := F) e m ρ).duties (sendCell c) 0 \ ∅) (fun d => (sched (F := F) e m ρ).payload (sendCell c) 0 d) = xPts m ρ c := by
  rw [Finset.sdiff_empty, duties_send, bigSep_singleton, payload_send]
theorem rest_recv :
    bigSep ((sched (F := F) e m ρ).duties (recvCell c) 0 \ ∅) (fun d => (sched (F := F) e m ρ).payload (recvCell c) 0 d)
      = outPts c (outAt e m ρ c) := by
  rw [Finset.sdiff_empty, duties_recv, bigSep_singleton, payload_recv]

end Cells

/-! ## The devices still to be signalled -/

/-- The devices from number `k` on. -/
def rest (k : ℕ) : Finset (Dev nD) := Finset.univ.filter fun d => k ≤ d.val

theorem mem_rest {k : ℕ} {d : Dev nD} : Iff (d ∈ rest k) (k ≤ d.val) := by
  unfold rest; rw [Finset.mem_filter]; exact ⟨fun h => h.2, fun h => ⟨Finset.mem_univ _, h⟩⟩
theorem rest_zero : rest 0 = Finset.univ := Finset.ext fun d => ⟨fun _ => Finset.mem_univ _, fun _ => mem_rest.mpr (Nat.zero_le _)⟩
theorem rest_end : rest 32 = ∅ := Finset.eq_empty_of_forall_notMem fun d hd => by
  have h := mem_rest.mp hd
  have h' : d.val < 32 := d.isLt
  omega
theorem rest_not_mem (k : Dev nD) : k ∉ rest (k.val + 1) := fun h => absurd (mem_rest.mp h) (by omega)
theorem rest_step (k : Dev nD) : rest k.val = insert k (rest (k.val + 1)) := by
  ext d
  rw [Finset.mem_insert, mem_rest, mem_rest]
  constructor
  · intro h
    by_cases hd : d = k
    · exact .inl hd
    · exact .inr (by have : d.val ≠ k.val := fun h' => hd (Fin.ext h'); omega)
  · rintro (h | h)
    · rw [h]
    · omega

/-! ## What a device owes; the levels -/

/-- What device `c` owes once it has signalled the devices below `k`: a copy's credit to the receive cell of the device
    it copies to, and a unit to the barrier cell of each device from `k` on. -/
def owed (k : ℕ) (c : Dev nD) : CellTallies nD τ sig Unit :=
  tallyAt (recvCell (e c)) () N + ∑ d ∈ rest k, tallyAt (barCell d) () 1

theorem owed_step (k c : Dev nD) : owed e k.val c = owed e (k.val + 1) c + tallyAt (barCell k) () 1 := by
  unfold owed
  rw [rest_step, Finset.sum_insert (rest_not_mem k), add_assoc, add_comm (tallyAt (barCell k) () 1)]

theorem owed_end (c : Dev nD) : owed e 32 c = tallyAt (recvCell (e c)) () N := by
  unfold owed; rw [rest_end, Finset.sum_empty, add_zero]

/-- Credit at a cell, one entry at a time. -/
theorem owed_apply (k : ℕ) (c : Dev nD) (g : GSem nD τ sig) (u : Unit) :
    owed e k c g u = (if g = recvCell (e c) ∧ u = () then N else 0) + ∑ d ∈ rest k, if g = barCell d ∧ u = () then 1 else 0 := by
  unfold owed
  rw [Pi.add_apply, Finsupp.add_apply, tallyAt_apply, Finset.sum_apply, Finsupp.finset_sum_apply]
  exact congrArg _ (Finset.sum_congr rfl fun d _ => tallyAt_apply _ _ _ _ _)

theorem owed_pos {k : ℕ} {c : Dev nD} {g : GSem nD τ sig} {u : Unit} (h : 0 < owed e k c g u) :
    g = recvCell (e c) ∨ ∃ d, g = barCell d := by
  by_contra hn
  rw [not_or, not_exists] at hn
  rw [owed_apply, if_neg (fun h' => hn.1 h'.1), Finset.sum_eq_zero fun d _ => if_neg fun h' => hn.2 d h'.1] at h
  exact Nat.lt_irrefl 0 h

def L (g : GSem nD τ sig) : Finset Unit := if g.1.2 = .tc then {()} else ∅
/-- Barrier cells at 1, receive cells at 2, everything else at 0: a device only waits below what it owes. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (u : Unit) : lv (recvCell c) u = 2 := by
  dsimp only [lv]; rw [if_neg recv_ne_bar, if_pos rfl]

/-- The pipeline's own copies are waited for while everything, or nothing, is owed. -/
theorem mayWait_stage (c : Dev nD) (q : DmaSem sig) (hq : SemLoc.dma q ≠ .dma recvS.sem) (O : CellTallies nD τ sig Unit)
    (hO : O = owed e 0 c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos e hg with rfl | ⟨d, rfl⟩ <;> exact Finset.mem_singleton_self _)
      (fun p hp => by rw [Finset.mem_singleton.mp hp]; dsimp only [lv]; rw [if_neg (fun h => by cases h), if_neg hq])
      (fun g u hg => by
        rcases owed_pos e hg with rfl | ⟨d, rfl⟩
        · rw [lv_recv]; decide
        · rw [lv_bar]; decide)
  · rw [MayWait_zero]; iintro -; iempintro

/-- At its barrier wait a device owes one copy's credit, to a receive cell. -/
theorem mayWait_bar (c : Dev nD) :
    (levAts L lv : sProp 𝕄) ⊢ MayWait (c : Thread nD τ) (.reg barS) () (tallyAt (recvCell (e c)) () N) :=
  MayOwe.of_cut (L := L) (lev := lv) 1 (fun p hp => by rw [Finset.mem_singleton.mp hp, L_tc]; exact Finset.mem_singleton_self _)
    (fun g u hg => by rw [(Pipeline.tallyAt_pos hg).1, L_tc]; exact Finset.mem_singleton_self _)
    (fun p hp => by rw [Finset.mem_singleton.mp hp]; exact le_of_eq (lv_bar c _))
    (fun g u hg => by rw [(Pipeline.tallyAt_pos hg).1, lv_recv]; decide)

end Cert.Exchange

end
-- ==== Proof.Body.lean ====
/-
# One device's kernel

The kernel of one device, run effect by effect: the loop of 32 signals under an invariant, the wait for the 32 signals,
the table word, the copy out, the wait for its own copy and the wait for the one that arrives. The kernel ends with the
result buffer holding the block of the device that sends here.
-/
module

public import proofs.«01_k».proof.Proof.Protocol
public import proofs.«01_k».proof.Proof.Gen.KernelIdeal.Skeleton
public import Idealize.ShloMosaic.Lib.Scf

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (e : Equiv.Perm (Dev nD))
variable (m : (ℓ : Loc nD τ sig) → Buf (Elt F) ℓ) (ρ : Dev nD → PrngReg)

abbrev 𝒱₀ : Variants := Variants.none

/-! ## The table word -/

/-- The rectangle of the table the kernel loads: one word, at the device's number in its group. -/
abbrev rW (c : Dev nD) : Rect S4 := Rect.unit (s := S4) (k0_off1 c) S1.size (k0_off1_inb c)
/-- The word it finds there. -/
abbrev word (c : Dev nD) (ts : (cc0_stg0_0 : Ref sig .tc).ty.Contents (Elt F)) : BitVec 32 :=
  (tM.access (rW c) : View sig .tc _ _ _).read (Elt F) ts (Shape.Idx.first (s := S1) (numel1_S1.symm ▸ Nat.one_pos))

/-- The word is the table's entry at the device's number in its group. -/
theorem word_tstg (c : Dev nD) : word c (tstg m ρ c) = m ((c : Thread nD τ).loc main_arg1) (entry (lane c)) := by
  show m ((c : Thread nD τ).loc main_arg1) _ = _
  refine congrArg _ (funext fun a => Fin.ext ?_)
  fin_cases a
  fin_cases c <;> rfl

/-- What the run asks of the memory: the word each device reads makes it address the device `e` gives it. -/
def Addresses : Prop := ∀ c : Dev nD, k0_dev2 c (m ((c : Thread nD τ).loc main_arg1) (entry (lane c))) = (e c).val

variable {e m} in
/-- Then the kernel's own check, that the number it computed names a device, holds; -/
theorem Addresses.chk (h : Addresses e m) (c : Dev nD) : k0_chk1 c (word c (tstg m ρ c)) := by
  rw [word_tstg]
  unfold k0_chk1
  rw [h c]
  exact (e c).isLt
variable {e m} in
/-- and the device addressed is `e c`. -/
theorem Addresses.dev (h : Addresses e m) (c : Dev nD) (hw : k0_chk1 c (word c (tstg m ρ c))) :
    (⟨k0_dev2 c (word c (tstg m ρ c)), k0_dev2_lt c _ hw⟩ : Dev nD) = e c := by
  apply Fin.ext
  show k0_dev2 c (word c (tstg m ρ c)) = (e c).val
  rw [word_tstg, h c]

/-! ## The pipeline's data -/

/-- What every device may rely on throughout: every cell's invariant, and that every cell is at its first round. -/
def records (K : Dev nD × Fin 3 → ℕ) : sProp 𝕄 :=
  iprop((bigSep Finset.univ fun ck : Dev nD × Fin 3 => cellInv ER (sched e m ρ) (K ck) (kcell ck))
    ∗ bigSep Finset.univ fun ck : Dev nD × Fin 3 => reached ER (kcell ck) 0)

instance records_persistent (K : Dev nD × Fin 3 → ℕ) : BI.Persistent (records e m ρ K) := by unfold records; infer_instance

theorem inv_at (K : Dev nD × Fin 3 → ℕ) (ck : Dev nD × Fin 3) :
    records e m ρ K ⊢ cellInv ER (sched e m ρ) (K ck) (kcell ck) := by
  unfold records
  iintro ⟨H, -⟩
  iapply (show (bigSep Finset.univ fun ck : Dev nD × Fin 3 => (cellInv ER (sched e m ρ) (K ck) (kcell ck) : sProp 𝕄))
    ⊢ cellInv ER (sched e m ρ) (K ck) (kcell ck) from bigSep_elim (Finset.mem_univ ck))
  iexact H
theorem reached_at (K : Dev nD × Fin 3 → ℕ) (ck : Dev nD × Fin 3) : records e m ρ K ⊢ reached ER (kcell ck) 0 := by
  unfold records
  iintro ⟨-, H⟩
  iapply (show (bigSep Finset.univ fun ck : Dev nD × Fin 3 => (reached ER (kcell ck) 0 : sProp 𝕄))
    ⊢ reached ER (kcell ck) 0 from bigSep_elim (Finset.mem_univ ck))
  iexact H

/-- The barrier duties device `c` has not yet paid when it has signalled the devices below `k`. -/
def signalToks (k : ℕ) (c : Dev nD) : sProp 𝕄 := bigSep (rest k) fun d => dutyTok ER (barCell d) 0 c

/-- What device `c` starts from: the records, its place at the first round of its three cells, and the duties it pays. -/
def ghost (K : Dev nD × Fin 3 → ℕ) (c : Dev nD) : sProp 𝕄 :=
  iprop(records e m ρ K
    ∗ (atPos ER (barCell c) 0 ∅ 0 ∗ atPos ER (sendCell c) 0 ∅ 0 ∗ atPos ER (recvCell c) 0 ∅ 0)
    ∗ signalToks (F := F) 0 c ∗ dutyTok ER (recvCell (e c)) 0 0 ∗ dutyTok ER (sendCell c) 0 0)

/-- The same at some names, with the credit it may wait for and the levels. -/
def start (c : Dev nD) : sProp 𝕄 :=
  iprop((∃ K, ghost e m ρ K c) ∗ cred (tallyAt (barCell c) () 32) ∗ cred (tallyAt (recvCell c) () N) ∗ levAts L lv)

/-- What it ends with: its three counters at zero. -/
def finish (c : Dev nD) : sProp 𝕄 := iprop(semVal (sendCell c) 0 ∗ semVal (recvCell c) 0 ∗ semVal (barCell c) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => tstg m ρ c
    | ⟨1, _⟩ => xstg m ρ c
    | ⟨2, _⟩ => outAt e m ρ c
  Φ t := match t with
    | ⟨0, _⟩ => start e m ρ c
    | ⟨_ + 1, _⟩ => finish (F := F) c
  q _ := fullShare
  owed t := match t with
    | ⟨0, _⟩ => owed e 0 c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The loop of signals -/

section Run

variable (K : Dev nD × Fin 3 → ℕ)

/-- Device `c`'s result buffer is still its own until it has signalled the device that copies to it. -/
def held (k : ℕ) (c : Dev nD) : sProp 𝕄 := if k ≤ (e.symm c).val then outFree (F := F) c else iprop(emp)

/-- Signalling device `d`: what the signal hands over, and what is still held after it. -/
theorem held_step (c d : Dev nD) : held (F := F) e d.val c ⊢ iprop(barPay (F := F) e d c ∗ held (F := F) e (d.val + 1) c) := by
  unfold held barPay
  by_cases h : c = e d
  · have hs : e.symm c = d := by rw [h, Equiv.symm_apply_apply]
    rw [hs, if_pos le_rfl, if_pos h, if_neg (by omega)]
    iintro H
    isplitl [H]; · iexact H
    iempintro
  · have hs : (e.symm c).val ≠ d.val := fun h' => h (by rw [← Fin.ext h', Equiv.apply_symm_apply])
    rw [if_neg h]
    by_cases hk : d.val ≤ (e.symm c).val
    · rw [if_pos hk, if_pos (by omega)]
      iintro H
      isplitr; · iempintro
      iexact H
    · rw [if_neg hk, if_neg (by omega)]
      iintro H
      isplitr <;> iempintro

/-- Before the signal to device `k`: everything is still owed, and its duties still to be paid, to the devices from `k`
    on. -/
def loopInv (c : Dev nD) (W : Waits sig Unit) (k : ℕ) : sProp 𝕄 :=
  iprop(records e m ρ K ∗ owes (c : Thread nD τ) (owed e k c) W ∗ signalToks (F := F) k c ∗ held (F := F) e k c)

/-- One signal. -/
theorem signal_step (c : Dev nD) (W : Waits sig Unit) (k : Fin k0_t1_loop.trips) (acc : Unit) :
    loopInv e m ρ K c W k.val
      ⊢ wp frame (wpE (defs₀ (F := F)) 𝒱₀ (c : Thread nD τ) none) Set.univ
          (k0_t1_body (F := F) tM (Memref.isWhole_whole _) xM (Memref.isWhole_whole _) oM (Memref.isWhole_whole _) cc0_scratch0 cc0_scratch1
            (SemArray.scalar (sig.barrier 0 rfl) : Sems sig S_) k acc) (fun _ => loopInv e m ρ K c W (k.val + 1)) := by
  unfold k0_t1_body
  simp only [semSignalWord, Prog.lift, Prog.bind_op, Prog.bind_ret, Prog.pure_eq_ret]
  have hd : (⟨k0_dev1 k, k0_dev1_lt k⟩ : Dev nD).val = k.val := k0_dev1_eq k
  generalize (⟨k0_dev1 k, k0_dev1_lt k⟩ : Dev nD) = d at hd ⊢
  rw [← hd, show (1#32 : BitVec 32).toInt = ((1 : ℕ) : ℤ) from rfl]
  unfold loopInv
  iintro ⟨#HR, HO, Htok, Hh⟩
  ihave Htok' := (Entails.of_eq (show signalToks (F := F) d.val c = iprop(dutyTok ER (barCell d) 0 c ∗ signalToks (F := F) (d.val + 1) c) from by
    unfold signalToks; rw [rest_step, bigSep_insert (rest_not_mem d)]; rfl)) $$ Htok
  icases Htok' with ⟨Ht, Htok⟩
  ihave Hh' := (held_step (F := F) e c d) $$ Hh
  icases Hh' with ⟨Hp, Hh⟩
  iapply (Rounds.wp_signal 𝒱₀ ER (sched e m ρ) (c : Thread nD τ) none (dst := (d : Thread nD τ)) (κ := K (d, 0))
      (d := c) (by rw [duties_bar]; exact Finset.mem_univ _) (amount_bar e m ρ d c) () (owed e (d.val + 1) c) (owed_step e d c))
    $$ [HO Ht Hp]
  · isplitr; · iapply (inv_at e m ρ K (d, 0)); iexact HR
    isplitl [HO]; · iexact HO
    isplitl [Ht]; · iexact Ht
    isplitl [Hp]; · rw [payload_bar]; iexact Hp
    iapply (reached_at e m ρ K (d, 0)); iexact HR
  iintro HO
  rw [wp_ret]; imodintro
  isplitr; · iexact HR
  isplitl [HO]; · iexact HO
  isplitl [Htok]; · iexact Htok
  iexact Hh

/-! ## The copy -/

/-- The copy to the device `n = e c`: it takes `c`'s block and the target's result buffer, and pays the one copy's
    credit owed. -/
theorem wp_copy (c n : Dev nD) (hn : n = e c) {hsc : (oM : Memref sig (Dev.tc n : Thread nD τ).2.kind .vmem S1x2048x1024 .bf16).view.ref.isScScratch = false}
    {hsrc : (xM : Memref sig .tc .vmem S1x2048x1024 .bf16).view.WordExact} {hdst : (oM : Memref sig .tc .vmem S1x2048x1024 .bf16).view.WordExact}
    {hsem : DmaTarget.Typed .vmem (.dma recvS.sem) (.remote (Dev.tc n : Thread nD τ) (oM : Memref sig .tc .vmem S1x2048x1024 .bf16) (.dma sendS.sem) hsc)}
    {α : Type} {Q : α → sProp 𝕄} {k : PUnit → Prog (TpuEff nD τ sig (Elt F) Λ₀ .tc) α}
    (fn : Buf (Elt F) ((oM : Memref sig .tc .vmem S1x2048x1024 .bf16).view.loc (e c : Thread nD τ))) (W : Waits sig Unit) :
    iprop(cellInv ER (sched e m ρ) (K (c, 1)) (sendCell c) ∗ cellInv ER (sched e m ρ) (K (e c, 2)) (recvCell (e c))
        ∗ xPts m ρ c ∗ outPts (e c) fn
        ∗ owes (c : Thread nD τ) (tallyAt (recvCell (e c)) () N) W
        ∗ dutyTok ER (sendCell c) 0 0 ∗ reached ER (sendCell c) 0
        ∗ dutyTok ER (recvCell (e c)) 0 0 ∗ reached ER (recvCell (e c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS.sem) hsc) (.dma recvS.sem) hsrc hdst hsem) k) Q) := by
  subst hn
  unfold xPts outPts
  exact Rounds.wp_send_pointsTo 𝒱₀ ER (sched e m ρ) (c : Thread nD τ) none (κ₁ := K (c, 1)) (κ₂ := K (e c, 2))
    (r₁ := 0) (r₂ := 0) (d₁ := 0) (d₂ := 0) (fd := fn)
    (by rw [duties_send]; exact Finset.mem_singleton_self _) (by rw [duties_recv]; exact Finset.mem_singleton_self _)
    () () N rfl (amount_send e m ρ c 0) (amount_recv e m ρ (e c) 0) 0 (by rw [zero_add]) (W := W)
    (by rw [payload_send]; exact BI.Entails.refl _)
    (by rw [payload_recv]; unfold outPts; rw [landed_eq, outAt, Equiv.symm_apply_apply])

/-! ## The kernel -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost e m ρ K c ∗ cred (tallyAt (barCell c) () 32) ∗ cred (tallyAt (recvCell c) () N) ∗ levAts L lv)
    ∗ (dats e m ρ 0 c).owesAt () t0_0.castSucc
    ∗ (∃ d, stg c cc0_stg0_0 ((dats e m ρ 0 c).before (0 : Fin 3) t0_0 d))
    ∗ (∃ d, stg c cc0_stg1_0 ((dats e m ρ 0 c).before (1 : Fin 3) t0_0 d))
    ∗ (∃ d, stg c cc0_stg2_0 ((dats e m ρ 0 c).before (2 : Fin 3) t0_0 d)))

def bodyPost (c : Dev nD) : sProp 𝕄 :=
  iprop(finish (F := F) c ∗ (dats e m ρ 0 c).owesAt () t0_0.succ
    ∗ stg c cc0_stg0_0 (tstg m ρ c) ∗ stg c cc0_stg1_0 (xstg m ρ c) ∗ stg c cc0_stg2_0 (outAt e m ρ c))

set_option maxHeartbeats 800000 in
/-- The kernel of device `c`, one rule per effect in program order. -/
theorem sound_body (hA : Addresses e m) (c : Dev nD) (Kt : PUnit → sProp 𝕄) :
    iprop(bodyPre e m ρ K c ∗ (bodyPost e m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1) Kt := by
  simp only [cc0_body_eq_skeleton]; unfold cc0_body_skel
  unfold bodyPre ghost
  iintro ⟨⟨⟨⟨#HR, ⟨HatB, HatS, HatV⟩, Htok, HtV, HtS⟩, HcB, HcV, #Hlev⟩,
    Ho, ⟨%d0, %g0, %hg0, Ht⟩, ⟨%d1, %g1, %hg1, Hx⟩, ⟨%d2, %g2, %hg2, Hout⟩⟩, Hk⟩
  have ht : g0 = tstg m ρ c := by rw [hg0]; unfold Dat.before; rw [if_pos (fetch_0 t0_0)]; rfl
  subst ht
  have hx : g1 = xstg m ρ c := by rw [hg1]; unfold Dat.before; rw [if_pos (fetch_1 t0_0)]; rfl
  subst hx
  unfold Dat.owesAt Pipeline.owesWithin
  icases Ho with ⟨%W, %hW, HO⟩
  rw [show (dats e m ρ 0 c).owed t0_0.castSucc = owed e 0 c from rfl]
  -- the 32 signals
  iapply (Scf.wp_for_bind frame (wpE (defs₀ (F := F)) 𝒱₀ (c : Thread nD τ) none) Set.univ k0_t1_loop.lb k0_t1_loop.ub k0_t1_loop.st k0_t1_ok ()
    (k0_t1_body (F := F) tM (Memref.isWhole_whole _) xM (Memref.isWhole_whole _) oM (Memref.isWhole_whole _) cc0_scratch0 cc0_scratch1
            (SemArray.scalar (sig.barrier 0 rfl) : Sems sig S_)) (fun k _ => loopInv e m ρ K c W k) (signal_step e m ρ K c W)) $$ [HO Htok Hout]
  · unfold loopInv
    isplitr; · iexact HR
    isplitl [HO]; · iexact HO
    isplitl [Htok]; · iexact Htok
    unfold held outFree; rw [if_pos (Nat.zero_le _)]
    iexists g2; rw [outPts_eq]; iexact Hout
  iintro %acc HI
  simp only [semWaitWord, smemLoad, smemLoadElt, Prog.lift, Prog.bind_op, Prog.bind_ret, Prog.pure_eq_ret, Prog.bind_assoc]
  rw [show (32#32 : BitVec 32).toInt = ((32 : ℕ) : ℤ) from rfl, show Scf.trips k0_t1_loop.lb k0_t1_loop.ub k0_t1_loop.st = 32 from by decide +kernel]
  unfold loopInv
  rw [owed_end]
  icases HI with ⟨-, HO, -, -⟩
  -- the wait for the 32 signals: the result buffer of `e c` comes with them
  iapply (Rounds.wp_wait_rest_token 𝒱₀ ER (sched e m ρ) (c : Thread nD τ) none (κ := K (c, 0))
      (wpE_semWait_eq 𝒱₀ (c : Thread nD τ) none Set.univ) (Set.mem_univ _) () (O := tallyAt (recvCell (e c)) () N) (W := W) (R := 0) (m := 0) (T := ∅)
      (by rw [expect_bar])) $$ [HcB HO HatB]
  · isplitr; · iapply (inv_at e m ρ K (c, 0)); iexact HR
    isplitl [HcB]; · iexact HcB
    isplitl [HO]; · iexact HO
    isplitr; · iapply (mayWait_bar e c); iexact Hlev
    iexact HatB
  iintro ⟨HO, HatB, -, Hpay⟩
  ihave Hp := (rest_bar (F := F) e m ρ c) $$ Hpay
  unfold outFree
  icases Hp with ⟨%fn, HoutN⟩
  -- the table word, and the check that it names a device
  simp only [wp_deviceId]
  iapply (wp_load_rect 𝒱₀ (c : Thread nD τ) none Set.univ (m := tM) (r := rW c) (Finset.subset_univ _)) $$ Ht; iintro Ht
  simp only [wp_assume_of _ _ _ _ (d := k0_chk1.dec _ _) (hA.chk ρ c)]
  -- the copy
  ihave Hx' := (Entails.of_eq (xPts_eq m ρ c).symm) $$ Hx
  iapply (wp_copy e m ρ K c _ (hA.dev ρ c (hA.chk ρ c)) fn (insert (SemLoc.reg barS, ()) W)) $$ [Hx' HoutN HO HtS HtV]
  · isplitr; · iapply (inv_at e m ρ K (c, 1)); iexact HR
    isplitr; · iapply (inv_at e m ρ K (e c, 2)); iexact HR
    isplitl [Hx']; · iexact Hx'
    isplitl [HoutN]; · iexact HoutN
    isplitl [HO]; · iexact HO
    isplitl [HtS]; · iexact HtS
    isplitr; · iapply (reached_at e m ρ K (c, 1)); iexact HR
    isplitl [HtV]; · iexact HtV
    iapply (reached_at e m ρ K (e c, 2)); iexact HR
  iintro ⟨HcS, HO⟩
  -- its own copy has left: the block of `x` is back
  iapply (Rounds.wp_wait_rest_token 𝒱₀ ER (sched e m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send]; rfl)) $$ [HcS HO HatS]
  · isplitr; · iapply (inv_at e m ρ K (c, 1)); iexact HR
    isplitl [HcS]; · iexact HcS
    isplitl [HO]; · iexact HO
    isplitr; · rw [MayWait_zero]; iempintro
    iexact HatS
  iintro ⟨HO, HatS, -, Hpay⟩
  ihave Hx := (Entails.of_eq ((rest_send e m ρ c).trans (xPts_eq m ρ c))) $$ Hpay
  -- a copy has arrived: the result buffer is back, holding the sender's block
  iapply (Rounds.wp_wait_rest_token 𝒱₀ ER (sched e m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv]; rfl)) $$ [HcV HO HatV]
  · isplitr; · iapply (inv_at e m ρ K (c, 2)); iexact HR
    isplitl [HcV]; · iexact HcV
    isplitl [HO]; · iexact HO
    isplitr; · rw [MayWait_zero]; iempintro
    iexact HatV
  iintro ⟨HO, HatV, -, Hpay⟩
  ihave Hout := (Entails.of_eq ((rest_recv e m ρ c).trans (outPts_eq c _))) $$ Hpay
  -- the three cells close: their counters are at zero
  imod (Rounds.cell_close ER (sched e m ρ) (Set.mem_univ (K (c, 1))) (fun h => h) (R := 0 + 1) (duties_later e m ρ (sendCell c))) $$ [HatS] with HzS
  · isplitr; · iapply (inv_at e m ρ K (c, 1)); iexact HR
    iexact HatS
  imod (Rounds.cell_close ER (sched e m ρ) (Set.mem_univ (K (c, 2))) (fun h => h) (R := 0 + 1) (duties_later e m ρ (recvCell c))) $$ [HatV] with HzV
  · isplitr; · iapply (inv_at e m ρ K (c, 2)); iexact HR
    iexact HatV
  imod (Rounds.cell_close ER (sched e m ρ) (Set.mem_univ (K (c, 0))) (fun h => h) (R := 0 + 1) (duties_later e m ρ (barCell c))) $$ [HatB] with HzB
  · isplitr; · iapply (inv_at e m ρ K (c, 0)); iexact HR
    iexact HatB
  rw [wp_ret]; imodintro
  iapply Hk
  unfold bodyPost finish Dat.owesAt Pipeline.owesWithin
  rw [show (dats e m ρ 0 c).owed t0_0.succ = 0 from rfl]
  isplitl [HzS HzV HzB]
  · isplitl [HzS]; · iexact HzS
    isplitl [HzV] <;> iassumption
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  iexists _; isplitr; · (ipureintro; rfl)
  iexact Hout

end Run

def bodyPre' (c : Dev nD) : sProp 𝕄 :=
  iprop(start e m ρ c ∗ (dats e m ρ 0 c).owesAt () t0_0.castSucc
    ∗ (∃ d, stg c cc0_stg0_0 ((dats e m ρ 0 c).before (0 : Fin 3) t0_0 d))
    ∗ (∃ d, stg c cc0_stg1_0 ((dats e m ρ 0 c).before (1 : Fin 3) t0_0 d))
    ∗ (∃ d, stg c cc0_stg2_0 ((dats e m ρ 0 c).before (2 : Fin 3) t0_0 d)))

set_option maxRecDepth 4000 in
/-- The kernel does what the pipeline around it asks of it. -/
theorem body_obligation (hA : Addresses e m) (c : Dev nD) :
    BodyObligation (dats (F := F) e m ρ 0 c) (defs₀ (F := F)) 𝒱₀ () Set.univ := fun t => by
  rw [fin_N0 t]
  rw [bigSep_W, bigSep_W]
  simp only [owns_whole_eq]
  show bodyPre' e m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) cc0_scratch0 cc0_scratch1) (fun _ => bodyPost e m ρ c)
  unfold bodyPre' start
  iintro ⟨⟨⟨%K, Hg⟩, Hrest⟩, Ho, Ht, Hx, Hout⟩
  iapply (sound_body e m ρ K hA c fun _ => bodyPost e m ρ c)
  unfold bodyPre
  isplitr []
  · isplitl [Hg Hrest]
    · isplitl [Hg] <;> iassumption
    isplitl [Ho]; · iexact Ho
    isplitl [Ht]; · iexact Ht
    isplitl [Hx] <;> iassumption
  · iintro H; iexact H

end Cert.Exchange

end
-- ==== Proof.Launch.lean ====
/-
# The run

The launch on all 32 devices: the protocol's cells and duties are set up for all devices in one step, since every
device signals every other's barrier cell; the duties are dealt to the devices that pay them; what is owed in total is
what each cell expects. Then the run: it ends, with every result array holding the block of the device that sends to
it, both arguments as they were, and every counter at zero.
-/
module

public import Idealize.ShloMosaic.Lib.Pipeline.CollectiveSegs
public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (e : Equiv.Perm (Dev nD))
variable (m : (ℓ : Loc nD τ sig) → Buf (Elt F) ℓ) (ρ : Dev nD → PrngReg)

/-! ## The cells and the duties of the launch -/

theorem ownSemFacts : Pipeline.OwnSemFacts cfg0.spec osem := by decide

theorem share_eq (c : Dev nD) (w : Fin cfg0.W) : (dats e m ρ 0 c).share w = fullShare := by unfold Dat.share; split <;> rfl

theorem csem_injective : Function.Injective csem := by
  intro k k' h
  fin_cases k <;> fin_cases k' <;> first | rfl | exact absurd h (by decide)
theorem kcell_injective : Function.Injective (kcell : Dev nD × Fin 3 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of one device's own cells: its barrier's, one for every device, its send cell's and its receive cell's. -/
abbrev Duty : Type := Dev nD ⊕ Bool
abbrev dutyCell (c : Dev nD) : Duty → GSem nD τ sig × ℕ × Dev nD
  | .inl d => (barCell c, 0, d)
  | .inr false => (sendCell c, 0, 0)
  | .inr true => (recvCell c, 0, 0)
abbrev tokOf (cj : Dev nD × Duty) : GSem nD τ sig × ℕ × Dev nD := dutyCell cj.1 cj.2

theorem dutyCell_dev (c : Dev nD) (j : Duty) : (dutyCell c j).1.1.1 = c := by
  rcases j with d | (_ | _) <;> rfl
theorem dutyCell_injective (c : Dev nD) : Function.Injective (dutyCell c) := by
  intro j j' h
  have hs : (dutyCell c j).1.2 = (dutyCell c j').1.2 := congrArg (fun x : GSem nD τ sig × ℕ × Dev nD => x.1.2) h
  have hd : (dutyCell c j).2.2 = (dutyCell c j').2.2 := congrArg (fun x : GSem nD τ sig × ℕ × Dev nD => x.2.2) h
  rcases j with d | (_ | _) <;> rcases j' with d' | (_ | _)
  · exact congrArg Sum.inl hd
  · exact absurd hs.symm send_ne_bar
  · exact absurd hs.symm recv_ne_bar
  · exact absurd hs send_ne_bar
  · rfl
  · exact absurd hs send_ne_recv
  · exact absurd hs recv_ne_bar
  · exact absurd hs.symm send_ne_recv
  · rfl
theorem tokOf_injective : Function.Injective (tokOf : Dev nD × Duty → GSem nD τ sig × ℕ × Dev nD) := by
  rintro ⟨c, j⟩ ⟨c', j'⟩ h
  have h1 : c = c' := by
    rw [← dutyCell_dev c j, ← dutyCell_dev c' j']
    exact congrArg (fun x : GSem nD τ sig × ℕ × Dev nD => x.1.1.1) h
  subst h1
  exact congrArg (Prod.mk c) (dutyCell_injective c h)
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The duties of device `c`'s own cells. -/
def toks (c : Dev nD) : sProp 𝕄 :=
  iprop((bigSep Finset.univ fun d : Dev nD => dutyTok ER (barCell c) 0 d) ∗ dutyTok ER (sendCell c) 0 0 ∗ dutyTok ER (recvCell c) 0 0)

/-- What the launch gives device `c`, -/
def G (c : Dev nD) : sProp 𝕄 :=
  iprop((bigSep Finset.univ fun k : Fin 3 => roundState ER (sched e m ρ) (kcell (c, k)) 0)
    ∗ (bigSep Finset.univ fun k : Fin 3 => iprop(atPos ER (kcell (c, k)) 0 ∅ 0 ∗ reached ER (kcell (c, k)) 0)) ∗ toks c)

/-- and what the set-up of all devices together makes of it. -/
def G' (c : Dev nD) : sProp 𝕄 := iprop(∃ K, ghost e m ρ K c)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_bool (Φ : Bool → sProp 𝕄) : bigSep Finset.univ Φ = iprop(Φ false ∗ Φ true) :=
  bigSep_univ_eq_bigSepL [false, true] (by decide) (by decide) Φ

theorem fund_all : BI.own (ER (initOf allCells allToks)) ⊢ (|==> bigSep Finset.univ (G e m ρ) : sProp 𝕄) := by
  have hX (Φ : GSem nD τ sig → sProp 𝕄) : bigSep allCells Φ = bigSep Finset.univ fun c : Dev nD => bigSep Finset.univ fun k : Fin 3 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_bool]; rfl
  iintro HX
  imod (Rounds.fund ER (sched e m ρ) allCells allToks) $$ HX with ⟨Hst, Hr, Hat, Htok⟩
  imodintro
  ihave Hst' := (Entails.of_eq (hX fun g => roundState ER (sched e m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The set-up of all devices at once -/

theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- The barrier semaphore is the launch's one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G e m ρ c)
      ⊢ |={Set.univ}=> iprop((bigSep Finset.univ fun k => iprop(∃ κ : ℕ, cellInv ER (sched e m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched e m ρ) (kcell (c, k)) 0)
      ⊢ (|={Set.univ}=> bigSep Finset.univ fun k => iprop(∃ κ : ℕ, cellInv ER (sched e m ρ) κ (kcell (c, k))) : sProp 𝕄) from by
        rw [← bigSep_sep']
        exact (bigSep_mono fun k _ => (Rounds.body_intro ER (sched e m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties device `c` pays: its unit to every barrier cell, its copy's two credits. -/
def payToks (c : Dev nD) : sProp 𝕄 :=
  iprop(signalToks (F := F) 0 c ∗ dutyTok ER (recvCell (e c)) 0 0 ∗ dutyTok ER (sendCell c) 0 0)
/-- What is device `c`'s alone: its places and the duties it pays. -/
def linear (c : Dev nD) : sProp 𝕄 :=
  iprop((atPos ER (barCell c) 0 ∅ 0 ∗ atPos ER (sendCell c) 0 ∅ 0 ∗ atPos ER (recvCell c) 0 ∅ 0) ∗ payToks (F := F) e c)

theorem ghost_intro (K : Dev nD × Fin 3 → ℕ) (c : Dev nD) : iprop(records e m ρ K ∗ linear (F := F) e c) ⊢ G' e m ρ c := by
  unfold linear payToks G' ghost
  iintro ⟨#HR, Hat, Htok⟩
  iexists K
  isplitr; · iexact HR
  isplitl [Hat]; · iexact Hat
  iexact Htok

/-- The duties dealt from the devices whose cells they are to the devices that pay them: a barrier cell's one to every
    device, a receive cell's to the device that copies there. -/
theorem toks_dealt : (bigSep Finset.univ fun c : Dev nD => (toks c : sProp 𝕄)) ⊢ bigSep Finset.univ fun c : Dev nD => payToks (F := F) e c := by
  unfold toks payToks signalToks
  rw [rest_zero, bigSep_sep', bigSep_sep', bigSep_sep', bigSep_sep',
    bigSep_univ_comm (fun c d : Dev nD => (dutyTok ER (barCell c) 0 d : sProp 𝕄)),
    bigSep_univ_equiv e (fun c : Dev nD => (dutyTok ER (recvCell c) 0 0 : sProp 𝕄))]
  iintro ⟨H1, H2, H3⟩
  isplitl [H1]; · iexact H1
  isplitl [H3]; · iexact H3
  iexact H2

theorem bigSep_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched e m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' e m ρ) := by
  rw [bigSep_sep', bigSep_sep', ← bigSep_univ_prod (fun ck : Dev nD × Fin 3 => iprop(∃ κ : ℕ, cellInv ER (sched e m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched e m ρ) κ (kcell ck) : sProp 𝕄))) $$ HI
  icases HK with ⟨%K, #HI⟩
  ihave Htk := (toks_dealt (F := F) e) $$ Htok
  iapply (bigSep_shared (R := records e m ρ K) fun c _ => ghost_intro e m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) (payToks (F := F) e)).symm).trans
      (bigSep_mono fun c _ => show _ ⊢ linear (F := F) e c from Entails.of_eq (by unfold linear; rw [bigSep_fin3])))
    isplitl [Hat]; · iexact Hat
    iexact Htk

theorem setup : (bigSep Finset.univ fun c => iprop(Pipeline.ownSems0 (Ix := Unit) (Name := ℕ) (U := UU) (Lvl := ℕ) (Val := Elt F) (τ := τ) osem c ∗ unscopedSems0 c ∗ G e m ρ c) : sProp 𝕄)
    ⊢ |={Set.univ}=> bigSep Finset.univ (G' e m ρ) :=
  ((bigSep_mono fun c _ => core_alloc e m ρ c).trans (bigSep_fupd _ _)).trans (BI.fupd_mono (regroup e m ρ))

/-! ## The credit of the launch -/

theorem bar_eq_iff {a b : Dev nD} : Iff (barCell a = barCell b) (a = b) :=
  ⟨fun h => congrArg (fun g : GSem nD τ sig => g.1.1) h, fun h => h ▸ rfl⟩
theorem recv_eq_iff {a b : Dev nD} : Iff (recvCell a = recvCell b) (a = b) :=
  ⟨fun h => congrArg (fun g : GSem nD τ sig => g.1.1) h, fun h => h ▸ rfl⟩
theorem bar_ne_recv (a b : Dev nD) : barCell a ≠ recvCell b := fun h => recv_ne_bar (congrArg Prod.snd h).symm

/-- Every device owes every barrier cell one unit, -/
theorem owed_bar (d c : Dev nD) : owed e 0 d (barCell c) () = 1 := by
  rw [owed_apply, if_neg (fun h => bar_ne_recv _ _ h.1), rest_zero, Nat.zero_add,
    Finset.sum_eq_single c (fun d' _ hd' => if_neg fun h => hd' (bar_eq_iff.mp h.1).symm) (fun h => absurd (Finset.mem_univ _) h),
    if_pos ⟨rfl, rfl⟩]
/-- and a receive cell a copy's credit if it copies there. -/
theorem owed_recv (d c : Dev nD) : owed e 0 d (recvCell c) () = if d = e.symm c then N else 0 := by
  rw [owed_apply, Finset.sum_eq_zero (fun d' _ => if_neg fun h => bar_ne_recv _ _ h.1.symm), Nat.add_zero]
  by_cases h : d = e.symm c
  · rw [if_pos h, if_pos ⟨by rw [h, Equiv.apply_symm_apply], rfl⟩]
  · rw [if_neg h, if_neg (fun h' => h (by rw [recv_eq_iff.mp h'.1, Equiv.symm_apply_apply]))]

theorem launch_bar (c : Dev nD) :
    tallyOn (barCell c) (launchCredit (Pipeline.owing (owed e 0)) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar e d c, Finset.sum_const, Finset.card_univ,
    Fintype.card_fin, smul_eq_mul]
  rfl
theorem launch_recv (c : Dev nD) :
    tallyOn (recvCell c) (launchCredit (Pipeline.owing (owed e 0)) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv e d c,
    Finset.sum_ite_eq' Finset.univ (e.symm c) fun _ => N, if_pos (Finset.mem_univ _)]

theorem creds (c : Dev nD) :
    (Pipeline.launchCred (owed e 0) c : sProp 𝕄) ⊢ iprop(cred (tallyAt (barCell c) () 32) ∗ cred (tallyAt (recvCell c) () N)) := by
  unfold Pipeline.launchCred
  rw [bigSep_univ_at _ (SemLoc.reg barS), launch_bar]
  refine sep_mono_right ?_
  rw [← launch_recv e]
  exact bigSep_elim (Finset.mem_erase.mpr ⟨recv_ne_bar, Finset.mem_univ _⟩)

/-! ## The run -/

theorem start_intro (c : Dev nD) :
    iprop(Pipeline.unscopedRestP Pipeline.Prefetch.none cfg0.spec c (fun b => m ((c : Thread nD τ).loc b)) ∗ levAts L lv
        ∗ Pipeline.launchCred (owed e 0) c ∗ prngReg c (ρ c) ∗ G' e m ρ c)
      ⊢ |={Set.univ}=> iprop(start e m ρ c ∗ emp) := by
  iintro ⟨-, Hlev, Hcr, -, HG⟩
  ihave Hc := (creds (F := F) e c) $$ Hcr
  icases Hc with ⟨H1, HN⟩
  imodintro
  unfold start G'
  isplitl
  · isplitl [HG]; · iexact HG
    isplitl [H1]; · iexact H1
    isplitl [HN]; · iexact HN
    iexact Hlev
  · iempintro

theorem enter (c : Dev nD) :
    iprop(start e m ρ c ∗ Pipeline.prefHeld Pipeline.Prefetch.none c (fun _ => fullShare.right) (fun k => k.elim0) ∗ Pipeline.scopedRest cfg0.spec c)
      ⊢ (dats e m ρ 0 c).Φ 0 := by
  rw [show (dats e m ρ 0 c).Φ 0 = start e m ρ c from rfl]
  iintro ⟨Hs, -, -⟩
  iexact Hs

theorem leave (c : Dev nD) :
    (dats e m ρ 0 c).Φ (Fin.last cfg0.N) ⊢ iprop(unscopedSems0 c ∗ Pipeline.ownSems0 osem c ∗ Pipeline.scopedRest cfg0.spec c) := by
  rw [show (dats e m ρ 0 c).Φ (Fin.last cfg0.N) = finish (F := F) c from rfl, scopedRest0_eq, ownSems0_eq, unscopedSems0_eq]
  unfold finish
  iintro ⟨HzS, HzV, HzB⟩
  isplitl [HzB]; · iexact HzB
  isplitl [HzS HzV]
  · isplitl [HzS] <;> iassumption
  iempintro

theorem waits (c : Dev nD) : (levAts L lv : sProp 𝕄) ⊢ Pipeline.cellsWaits cfgs (dats e m ρ) () 0 c :=
  Pipeline.cellsWaits_intro cfgs (dats e m ρ) () 0 c fun w s t =>
    mayWait_stage e c _ (by fin_cases w <;> fin_cases s <;> decide) _ (by
      rcases t with ⟨_ | _, ht⟩
      · exact Or.inl rfl
      · exact Or.inr rfl)

/-- What window `w`'s array holds on device `c` in the end. -/
def finalA (c : Dev nD) (w : Fin cfg0.W) : Buf (Elt F) ((cfg0.win w).arr.view.loc (c : Thread nD τ)) := (dats e m ρ 0 c).arrAt w cfg0.N

set_option maxRecDepth 8000 in
/-- From any memory whose table words make each device address the one `e` gives it, every run ends, each window's
    array holds what the pipeline's data say and every counter is zero. -/
theorem run_main (hA : Addresses e m) : θ_run defs (onTc (τ := τ) (main (F := F))) (start₀ m ρ) (fun r =>
    (∀ c : Dev nD, ∀ w : Fin cfg0.W, r.2.mem ((cfg0.win w).arr.view.loc (c : Thread nD τ)) = finalA e m ρ c w) ∧ r.2.sem = fun _ => 0) :=
  Pipeline.θ_run_region_owing_glob_pf (fun p => (cfgs p).toPCfg) (fun p => (cfgs p).toPCfg_adm) (dats e m ρ) () cellOf_inj (0 : Fin 1)
    winFacts0.to₀ ownSemFacts (Pipeline.PreFacts.none _) EP defs₀ 𝒱₀ m ρ main
    (hmain := fun _ => rfl)
    (hbody := body_obligation e m ρ hA) (hne := block_pos0) (harr := arr_whole0) (hstage := stage_whole0) (hshare := share_eq e m ρ)
    (hdistinct := winFacts0.arr_inj)
    (O₀ := owed e 0) (howed₀ := fun _ => rfl) (howedN := fun _ => rfl)
    (L := L) (lv := lv) (hL := L_of_ne) (hwaits := waits e m ρ)
    (G := G e m ρ) (G' := G' e m ρ) (u₀ := u₀)
    (hu₀ := by
      unfold u₀
      iintro Hu
      ihave H := (ownU_pair _ _) $$ Hu
      icases H with ⟨HP, HX⟩
      imod (fund_all e m ρ) $$ HX with HG
      imodintro
      isplitl [HP] <;> iassumption)
    (hglob := setup e m ρ)
    (hA := fun _ _ => rfl) (hpf := fun _ k => k.elim0)
    (X := start e m ρ) (Y := fun c => unscopedSems0 c) (Z := fun _ => iprop(emp))
    (hX := start_intro e m ρ) (hin := enter e m ρ) (hout := leave e m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold in the end -/

/-- The table is as it was; -/
theorem final_table (c : Dev nD) : finalA e m ρ c (0 : Fin 3) = m ((c : Thread nD τ).loc main_arg1) :=
  (dats (F := F) e m ρ 0 c).arrAt_in (0 : Fin 3) rfl _
/-- `x` is as it was; -/
theorem final_x (c : Dev nD) : finalA e m ρ c (1 : Fin 3) = m ((c : Thread nD τ).loc main_arg0) :=
  (dats (F := F) e m ρ 0 c).arrAt_in (1 : Fin 3) rfl _

/-- the result array's one block, all of it, is what the kernel left; -/
theorem final_block (c : Dev nD) : (win0_2.blk (0 : Fin 1)).view.read (Elt F) (finalA e m ρ c (2 : Fin 3)) = outAt e m ρ c := by
  unfold finalA
  rw [show cfg0.N = ((0 : Fin 1) : Fin cfg0.N).val + 1 from rfl, (dats e m ρ 0 c).arrAt_succ (2 : Fin 3) (0 : Fin 1)]
  rw [show (cfg0.win (2 : Fin 3)).flush (0 : Fin 1) = true from by decide, if_pos rfl]
  exact View.read_write_univ _ _

/-- so it is the block of `x` of the device that sends here. -/
theorem final_out (c : Dev nD) : finalA e m ρ c (2 : Fin 3) = m ((e.symm c : Thread nD τ).loc main_arg0) := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have hz1 : (fun a => (win0_1.index (0 : Fin 1)) a * main_arg0.ty.shape.size a) = fun _ => 0 :=
    funext fun a => by fin_cases a <;> decide
  have hr1 := fun f => Memref.read_access_unit_zero (Elt F) main_arg0 hz1 (fun a => by fin_cases a <;> decide) f
  have ho := final_block e m ρ c
  unfold outAt xstg start₀ at ho
  exact ((hr _).symm.trans ho).trans (hr1 _)

/-- THE RUN: every device ends with the block of `x` of the device that sends to it, both its arguments as they were,
    and every counter at zero. -/
theorem run (hA : Addresses e m) : θ_run defs (onTc (τ := τ) (main (F := F))) ⟨m, fun _ => 0, ρ⟩ (fun r =>
    (∀ c : Dev nD,
      r.2.mem ((c.tc : Thread nD τ).loc main_v1) = m (((e.symm c).tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (final_out e m ρ c),
    (h.1 c (1 : Fin 3)).trans (final_x e m ρ c), (h.1 c (0 : Fin 3)).trans (final_table e m ρ c)⟩, h.2⟩) (run_main e m ρ hA)

end Cert.Exchange

end
-- ==== Proof.Value.lean ====
/-
# The reference's value

What the reference computes when its table lists the values of a permutation `σ` of the four shards: the stable
sort of the table carries the positions to the inverse of `σ`, no position is negative, and the gather takes shard
`σ⁻¹ k` to place `k`. The two casts change nothing on extended reals. So device `c`'s shard of the result is the shard
of `x` on the device that `c`'s predecessor under `hop σ` is.
-/
module

public import proofs.«01_k».proof.Proof.Route
public import proofs.«01_k».proof.Proof.Gen.ReferenceIdeal.Run
public import Idealize.ShloMosaic.Lib.Layout
public import Idealize.ShloMosaic.Lib.Quiescent
public import Idealize.ShloMosaic.PureOps.Ideal
public import Mathlib.Data.Fintype.Perm

@[expose] public section

noncomputable section

namespace Cert.Exchange

open Cert.ReferenceIdeal Cert.ReferenceIdeal.Gen
open Idealize.ShloMosaic
open Idealize.ShloMosaic.TcCoe Idealize.SL.Sem

/-- The table that lists `σ`'s values. -/
def table (σ : Equiv.Perm (Fin 4)) : IVec S4 32 := fun i => BitVec.ofNat 32 (σ (i 0)).val

/-- The positions in the order of the entries at them. -/
def order (t : IVec S4 32) : IVec S4 32 := (Host.sort2 S4 0 comparator_i32_i32_d0 t (iotaInDim S4 32 0)).2

/-- The rows the gather takes: those positions, a negative one counted from the end. -/
def rows (t : IVec S4 32) : IVec S4x1 32 :=
  broadcastInDim S4x1 ![0] bcast_S4_S4x1_0
    (select (cmpi .slt (order t) (broadcastInDim S4 ![] bcast_S_S4 (constantI S_ 32 0#32)))
      (addi (order t) (broadcastInDim S4 ![] bcast_S_S4 (constantI S_ 32 4#32))) (order t))

/-- Row `k`'s place in the list of rows. -/
def place (k : Fin 4) : S4x1.Idx := fun a => ⟨![k.val, 0] a, by fin_cases a; exacts [k.isLt, Nat.one_pos]⟩

/-- The row at place `k` is the shard that `σ` sends to `k`. -/
theorem rows_table : ∀ (σ : Equiv.Perm (Fin 4)) (k : Fin 4), rows (table σ) (place k) = BitVec.ofNat 32 (σ.symm k).val := by
  decide +kernel

/-- An index of the whole array moved to shard `k`. -/
def inShard (k : Fin 4) (j : S4x2048x1024.Idx) : S4x2048x1024.Idx := fun a =>
  ⟨if a = (0 : Fin 3) then k.val else (j a).val, by
    split
    · next h => subst h; exact k.isLt
    · exact (j a).isLt⟩

/-- The dimension numbers of the gather of whole shards. -/
abbrev byShard : GatherDims S4x2048x1024 S4x1 S4x2048x1024 := gather_S4x2048x1024_S4x1_S4x2048x1024_12_0_n_n_0_1_120481024

/-- The gather of whole shards: where the row at its place is `k`, an entry of the result is shard `k`'s. -/
theorem gather_shard {α : Type} (x : S4x2048x1024.Idx → α) (idx : IVec S4x1 32) (j : S4x2048x1024.Idx) (k : Fin 4)
    (hk : idx (place (j 0)) = BitVec.ofNat 32 k.val) :
    Host.gather byShard x idx j = x (inShard k j) := by
  have hw : ∀ k : Fin 4, min (BitVec.ofNat 32 k.val).toInt.toNat 3 = k.val := by decide
  -- along an axis that is not the shards', an index stays what it is
  have along (a : Fin 3) (h0 : a ∉ byShard.startIndexMap) (hs : a ∈ byShard.sKept)
      (ha : byShard.offsetDims[byShard.sKept.idxOf a]'(by rw [byShard.offset_length]; exact List.idxOf_lt_length_iff.2 hs) = a) :
      byShard.start j idx a + byShard.batchCoord j a + byShard.offCoord j a = (inShard k j a).val := by
    have hne : a ≠ (0 : Fin 3) := fun h => h0 (List.mem_singleton.mpr h)
    rw [byShard.batchCoord_eq_zero _ _ List.not_mem_nil]
    unfold GatherDims.start GatherDims.offCoord
    rw [dif_neg h0, dif_pos hs, Nat.zero_add, show (inShard k j a).val = (j a).val from if_neg hne]
    exact congrArg (fun b => (j b).val) ha
  unfold Host.gather
  refine congrArg x (funext fun a => Fin.ext ?_)
  match a with
  | ⟨0, _⟩ =>
    show byShard.start j idx (0 : Fin 3) + byShard.batchCoord j (0 : Fin 3) + byShard.offCoord j (0 : Fin 3) = k.val
    rw [byShard.batchCoord_eq_zero _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ byShard.startIndexMap from List.mem_singleton.mpr rfl)]
    rw [show byShard.siIdx j _ = place (j 0) from funext fun b => Fin.ext (by
      match b with
      | ⟨0, _⟩ => rfl
      | ⟨1, _⟩ => rfl), hk]
    exact hw k
  | ⟨1, _⟩ => exact along 1 (by decide) (by decide) rfl
  | ⟨2, _⟩ => exact along 2 (by decide) (by decide) rfl

/-- The reference's result: what it computes from `x` and the table `t`. -/
def result (x : FVec Ideal S4x2048x1024 .bf16) (t : IVec S4 32) : FVec Ideal S4x2048x1024 .bf16 :=
  truncf .bf16 (extf .f32 (Host.gather byShard x (rows t)) bitsLt_bf16_f32) bitsLt_bf16_f32

/-- At the table of `σ` its entry in shard `k` is `x`'s in shard `σ⁻¹ k`. -/
theorem result_table (x : FVec Ideal S4x2048x1024 .bf16) (σ : Equiv.Perm (Fin 4)) (j : S4x2048x1024.Idx) :
    result x (table σ) j = x (inShard (σ.symm (j 0)) j) :=
  gather_shard x (rows (table σ)) j (σ.symm (j 0)) (rows_table σ (j 0))

/-- Where device `c`'s block is among the blocks of a whole array. -/
abbrev meshAt (c : Fin 32) := Layout.meshBlock (r := 3) [2, 4, 4] ![[2], [], []] c

/-- Device `c`'s block of a whole array of four shards. -/
abbrev shard {α : Type} (c : Fin 32) (v : S4x2048x1024.Idx → α) : (⟨3, ![1, 2048, 1024]⟩ : Shape).Idx → α :=
  Layout.blockN ⟨3, ![1, 2048, 1024]⟩ ⟨3, ![4, 2048, 1024]⟩ (meshAt c) v

/-- Device `c`'s block is the shard of its number in its group. -/
theorem mesh_lane : ∀ c : Fin 32, (meshAt c (0 : Fin 3)).val = (lane c).val := by
  decide +kernel

/-- Device `c`'s block of the result is the block of `x` on the device that sends to `c`. -/
theorem shard_result (x : FVec Ideal S4x2048x1024 .bf16) (σ : Equiv.Perm (Fin 4)) (c : Fin 32) :
    shard c (result x (table σ)) = shard ((hop σ).symm c) x := by
  funext i
  rw [shard, shard, Layout.blockN_apply, Layout.blockN_apply, result_table]
  have hi : (i (0 : Fin 3)).val = 0 := by
    have h : (i (0 : Fin 3)).val < 1 := (i (0 : Fin 3)).isLt
    omega
  have hl : lane ((hop σ).symm c) = σ.symm (lane c) := lane_move σ.symm c
  refine congrArg x (funext fun a => Fin.ext ?_)
  match a with
  | ⟨0, _⟩ =>
    show (σ.symm _).val = (meshAt ((hop σ).symm c) (0 : Fin 3)).val * 1 + (i (0 : Fin 3)).val
    rw [mesh_lane, hl, hi, Nat.mul_one, Nat.add_zero]
    refine congrArg (fun k => (σ.symm k).val) (Fin.ext ?_)
    show (meshAt c (0 : Fin 3)).val * 1 + (i (0 : Fin 3)).val = (lane c).val
    rw [mesh_lane, hi, Nat.mul_one, Nat.add_zero]
  | ⟨1, _⟩ => rfl
  | ⟨2, _⟩ => rfl

variable (m : (ℓ : Loc nD τ sig) → Buf (Elt Ideal) ℓ) (ρ : Dev nD → PrngReg)

/-- The reference runs, ends with that result and with both arguments as they were, and it has no counters. -/
theorem reference_run : θ_run defs (onTc (τ := τ) (main (F := Ideal))) ⟨m, fun _ => 0, ρ⟩ (fun r =>
    (∀ c : Dev nD, r.2.mem ((c.tc : Thread nD τ).loc main_v9)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨h, sem_eq_zero_of_no_sems (by decide) r.2⟩) (Cert.ReferenceIdeal.Value.run m ρ)

end Cert.Exchange

end
-- ==== Proof.Claims.lean ====
/-
# The claims, for any table

Each claim of the certificate is stated for one of the 24 permutations of the four shards, as the condition that the
table on every device lists it. Here each kind of claim is proved for every table that lists a permutation.
-/
module

public import proofs.«01_k».proof.Defs
public import proofs.«01_k».proof.Proof.Gen.Kernel
public import proofs.«01_k».proof.Proof.Launch
public import proofs.«01_k».proof.Proof.Value

@[expose] public section

noncomputable section

namespace Cert.Exchange

open Idealize.ShloMosaic
open Idealize.ShloMosaic.TcCoe Idealize.SL.Sem

/-- The four words list the values of a permutation of the four shards. -/
abbrev Lists (w : Fin 4 → BitVec 32) : Prop := ∃ σ : Equiv.Perm (Fin 4), ∀ k, w k = BitVec.ofNat 32 (σ k).val

/-- The condition that a table's words are those of `w`, as the claims compute it. -/
abbrev Holds (t : IVec KernelIdeal.S4 32) (w : Fin 4 → BitVec 32) : Prop :=
  cmpi .eq t (fun i => w (KernelIdeal.S4.rowMajor i)) = fun _ => 1#1

/-- Where it holds and `w` lists `σ`, the table is the one that lists `σ`. -/
theorem Holds.table {t : IVec KernelIdeal.S4 32} {w : Fin 4 → BitVec 32} (h : Holds t w) {σ : Equiv.Perm (Fin 4)}
    (hw : ∀ k, w k = BitVec.ofNat 32 (σ k).val) : t = table σ := by
  have hm : ∀ k : Fin 4, (KernelIdeal.S4.rowMajor (entry k)).val = k.val := by decide
  funext i
  have hi : i = entry (i 0) := funext fun a => by fin_cases a; rfl
  have h1 : BitVec.ofBool (t i == w (KernelIdeal.S4.rowMajor i)) = 1#1 := congrFun h i
  have h2 : t i = w (KernelIdeal.S4.rowMajor i) := by
    cases hb : (t i == w (KernelIdeal.S4.rowMajor i)) with
    | false => rw [hb] at h1; exact absurd h1 (by decide)
    | true => exact eq_of_beq hb
  have h3 : (KernelIdeal.S4.rowMajor i).val = (i 0).val := (congrArg (fun i => (KernelIdeal.S4.rowMajor i).val) hi).trans (hm (i 0))
  exact h2.trans ((congrArg w (Fin.ext h3)).trans (hw (i 0)))

variable {F : FTy → Type} [FloatOps F]

/-- The kernel's run, where every device's table lists `σ`: device `c` ends with the block of the device that `hop σ`
    sends to `c`. -/
theorem kernel_run (σ : Equiv.Perm (Fin 4)) (m : (ℓ : Loc KernelIdeal.nD KernelIdeal.τ KernelIdeal.sig) → Buf (Elt F) ℓ)
    (ρ : Dev KernelIdeal.nD → PrngReg)
    (ht : ∀ c : Dev KernelIdeal.nD, m ((c.tc : Thread KernelIdeal.nD KernelIdeal.τ).loc KernelIdeal.main_arg1) = table σ) :
    θ_run KernelIdeal.defs (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_v1)
            = m ((((hop σ).symm c).tc : Thread KernelIdeal.nD KernelIdeal.τ).loc KernelIdeal.main_arg0)
        ∧ r.2.mem ((c.tc : Thread KernelIdeal.nD KernelIdeal.τ).loc KernelIdeal.main_arg0)
            = m ((c.tc : Thread KernelIdeal.nD KernelIdeal.τ).loc KernelIdeal.main_arg0)
        ∧ r.2.mem ((c.tc : Thread KernelIdeal.nD KernelIdeal.τ).loc KernelIdeal.main_arg1)
            = m ((c.tc : Thread KernelIdeal.nD KernelIdeal.τ).loc KernelIdeal.main_arg1))
      ∧ r.2.sem = fun _ => 0) :=
  run (hop σ) m ρ fun c => by
    rw [ht c]
    exact dev2_hop σ c

/-- The kernel's frame, over any float values: where every device's table lists one permutation, the kernel ends, both
    arguments are as they were and every counter is zero. -/
theorem kernel_frame {w : Fin 4 → BitVec 32} (hw : Lists w)
    (m : (ℓ : Loc KernelIdeal.nD KernelIdeal.τ KernelIdeal.sig) → Buf (Elt F) ℓ) (ρ : Dev KernelIdeal.nD → PrngReg)
    (h : ∀ c : Dev KernelIdeal.nD, Holds (m ((c.tc : Thread KernelIdeal.nD KernelIdeal.τ).loc KernelIdeal.main_arg1)) w) :
    θ_run KernelIdeal.defs (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0)
            = m ((c.tc : Thread KernelIdeal.nD KernelIdeal.τ).loc KernelIdeal.main_arg0)
        ∧ r.2.mem ((c.tc : Thread KernelIdeal.nD KernelIdeal.τ).loc KernelIdeal.main_arg1)
            = m ((c.tc : Thread KernelIdeal.nD KernelIdeal.τ).loc KernelIdeal.main_arg1))
      ∧ r.2.sem = fun _ => 0) := by
  obtain ⟨σ, hσ⟩ := hw
  exact (θ_run KernelIdeal.defs _ _).mono (fun _ hr => ⟨fun c => (hr.1 c).2, hr.2⟩)
    (kernel_run σ m ρ fun c => (h c).table hσ)

/-! The kernel over machine words and the one printed for the extended reals are the same text: their body tables are
equal (each label's body by unfolding, under the case split on the label), and so the frame above is also the first's. -/

theorem same_body :
    (fun a ha b hb c hc d e => Kernel.cc0_body (F := F) a ha b hb c hc d e)
      = fun a ha b hb c hc d e => KernelIdeal.cc0_body (F := F) a ha b hb c hc d e := rfl

theorem same_bodies : Kernel.defs₀ (F := F) = KernelIdeal.defs₀ (F := F) := by
  unfold Kernel.defs₀ KernelIdeal.defs₀
  refine congrArg Defs.onTc ?_
  funext l a
  match l, a with
  | 0, (t, s) =>
    exact congrFun (congrFun (congrFun (congrFun (congrFun (congrFun (congrFun (congrFun same_body _) _) _) _) _) _) _) _

theorem same_defs : Kernel.defs (F := F) = KernelIdeal.defs (F := F) := by
  unfold Kernel.defs
  rw [same_bodies]
  rfl

/-- The frame of the kernel over machine words. -/
theorem words_frame {w : Fin 4 → BitVec 32} (hw : Lists w)
    (m : (ℓ : Loc Kernel.nD Kernel.τ Kernel.sig) → Buf (Elt Bits) ℓ) (ρ : Dev Kernel.nD → PrngReg)
    (h : ∀ c : Dev Kernel.nD, Holds (m ((c.tc : Thread Kernel.nD Kernel.τ).loc Kernel.main_arg1)) w) :
    θ_run Kernel.defs (onTc (τ := Kernel.τ) (Kernel.main (F := Bits))) ⟨m, fun _ => 0, ρ⟩ (fun r =>
      (∀ c : Dev Kernel.nD,
        r.2.mem ((c.tc : Thread Kernel.nD Kernel.τ).loc Kernel.main_arg0)
            = m ((c.tc : Thread Kernel.nD Kernel.τ).loc Kernel.main_arg0)
        ∧ r.2.mem ((c.tc : Thread Kernel.nD Kernel.τ).loc Kernel.main_arg1)
            = m ((c.tc : Thread Kernel.nD Kernel.τ).loc Kernel.main_arg1))
      ∧ r.2.sem = fun _ => 0) := by
  rw [same_defs]
  exact kernel_frame hw m ρ h

/-- The reference's frame: it ends, and its arguments are as they were. -/
theorem reference_frame (m : (ℓ : Loc ReferenceIdeal.nD ReferenceIdeal.τ ReferenceIdeal.sig) → Buf (Elt Ideal) ℓ)
    (ρ : Dev ReferenceIdeal.nD → PrngReg) :
    θ_run ReferenceIdeal.defs (onTc (τ := ReferenceIdeal.τ) (ReferenceIdeal.main (F := Ideal))) ⟨m, fun _ => 0, ρ⟩ (fun r =>
      (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1))
      ∧ r.2.sem = fun _ => 0) :=
  (θ_run ReferenceIdeal.defs _ _).mono (fun _ hr => ⟨fun c => (hr.1 c).2, hr.2⟩) (reference_run m ρ)

/-- Kernel and reference compute the same, where every device's table lists one permutation: from memories in which
    device `c` holds its block of the reference's `x` and a copy of its table, both run, and device `c`'s result is its
    block of the reference's. -/
theorem same_value {w : Fin 4 → BitVec 32} (hw : Lists w)
    (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (ρ' : Dev ReferenceIdeal.nD → PrngReg)
    (h : ∀ c : Dev KernelIdeal.nD, Holds (m ((c.tc : Thread KernelIdeal.nD KernelIdeal.τ).loc KernelIdeal.main_arg1)) w)
    (ha : ∀ c : Dev KernelIdeal.nD,
      m ((c.tc : Thread KernelIdeal.nD KernelIdeal.τ).loc KernelIdeal.main_arg0)
          = shard c (m' (((0 : Dev ReferenceIdeal.nD).tc : Thread ReferenceIdeal.nD ReferenceIdeal.τ).loc ReferenceIdeal.main_arg0))
      ∧ m ((c.tc : Thread KernelIdeal.nD KernelIdeal.τ).loc KernelIdeal.main_arg1)
          = m' (((0 : Dev ReferenceIdeal.nD).tc : Thread ReferenceIdeal.nD ReferenceIdeal.τ).loc ReferenceIdeal.main_arg1)) :
    ∃ v : Buf (Elt Ideal) (((0 : Dev ReferenceIdeal.nD).tc : Thread ReferenceIdeal.nD ReferenceIdeal.τ).loc ReferenceIdeal.main_v9),
      θ_run KernelIdeal.defs (onTc (τ := KernelIdeal.τ) (KernelIdeal.main (F := Ideal))) ⟨m, fun _ => 0, ρ⟩ (fun r =>
        ∀ c : Dev KernelIdeal.nD,
          r.2.mem ((c.tc : Thread KernelIdeal.nD KernelIdeal.τ).loc KernelIdeal.main_v1) = shard c v
          ∧ r.2.mem ((c.tc : Thread KernelIdeal.nD KernelIdeal.τ).loc KernelIdeal.main_arg0)
              = m ((c.tc : Thread KernelIdeal.nD KernelIdeal.τ).loc KernelIdeal.main_arg0)
          ∧ r.2.mem ((c.tc : Thread KernelIdeal.nD KernelIdeal.τ).loc KernelIdeal.main_arg1)
              = m ((c.tc : Thread KernelIdeal.nD KernelIdeal.τ).loc KernelIdeal.main_arg1))
      ∧ θ_run ReferenceIdeal.defs (onTc (τ := ReferenceIdeal.τ) (ReferenceIdeal.main (F := Ideal))) ⟨m', fun _ => 0, ρ'⟩ (fun r =>
          r.2.mem (((0 : Dev ReferenceIdeal.nD).tc : Thread ReferenceIdeal.nD ReferenceIdeal.τ).loc ReferenceIdeal.main_v9) = v
          ∧ r.2.mem (((0 : Dev ReferenceIdeal.nD).tc : Thread ReferenceIdeal.nD ReferenceIdeal.τ).loc ReferenceIdeal.main_arg0)
              = m' (((0 : Dev ReferenceIdeal.nD).tc : Thread ReferenceIdeal.nD ReferenceIdeal.τ).loc ReferenceIdeal.main_arg0)
          ∧ r.2.mem (((0 : Dev ReferenceIdeal.nD).tc : Thread ReferenceIdeal.nD ReferenceIdeal.τ).loc ReferenceIdeal.main_arg1)
              = m' (((0 : Dev ReferenceIdeal.nD).tc : Thread ReferenceIdeal.nD ReferenceIdeal.τ).loc ReferenceIdeal.main_arg1)) := by
  obtain ⟨σ, hσ⟩ := hw
  have ht : ∀ c : Dev KernelIdeal.nD, m ((c.tc : Thread KernelIdeal.nD KernelIdeal.τ).loc KernelIdeal.main_arg1) = table σ :=
    fun c => (h c).table hσ
  have ht' : m' (((0 : Dev ReferenceIdeal.nD).tc : Thread ReferenceIdeal.nD ReferenceIdeal.τ).loc ReferenceIdeal.main_arg1) = table σ :=
    (ha 0).2.symm.trans (ht 0)
  refine ⟨result (m' (((0 : Dev ReferenceIdeal.nD).tc : Thread ReferenceIdeal.nD ReferenceIdeal.τ).loc ReferenceIdeal.main_arg0)) (table σ),
    (θ_run KernelIdeal.defs _ _).mono (fun _ hr c => ⟨?_, (hr.1 c).2⟩) (kernel_run σ m ρ ht),
    (θ_run ReferenceIdeal.defs _ _).mono (fun _ hr => ⟨?_, (hr.1 0).2⟩) (reference_run m' ρ')⟩
  · rw [(hr.1 c).1, (ha _).1]
    exact (shard_result _ σ c).symm
  · rw [(hr.1 0).1, ht']

end Cert.Exchange

end
-- ==== Proof.lean ====
/-
# The certificate

For each of the 24 permutations of the four shards: the kernel, over machine words and over the extended reals, and the
reference end with their arguments as they were and every counter at zero, and over the extended reals device `c`'s
result is its block of the reference's. Each claim is the one of `Claims.lean` for every table that lists a permutation,
at the table that the claim's condition states.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pi_0123_Kernel
public import proofs.«01_k».proof.Proof.Gen.Pre_pi_0132_Kernel
public import proofs.«01_k».proof.Proof.Gen.Pre_pi_0213_Kernel
public import proofs.«01_k».proof.Proof.Gen.Pre_pi_0231_Kernel
public import proofs.«01_k».proof.Proof.Gen.Pre_pi_0312_Kernel
public import proofs.«01_k».proof.Proof.Gen.Pre_pi_0321_Kernel
public import proofs.«01_k».proof.Proof.Gen.Pre_pi_1023_Kernel
public import proofs.«01_k».proof.Proof.Gen.Pre_pi_1032_Kernel
public import proofs.«01_k».proof.Proof.Gen.Pre_pi_1203_Kernel
public import proofs.«01_k».proof.Proof.Gen.Pre_pi_1230_Kernel
public import proofs.«01_k».proof.Proof.Gen.Pre_pi_1302_Kernel
public import proofs.«01_k».proof.Proof.Gen.Pre_pi_1320_Kernel
public import proofs.«01_k».proof.Proof.Gen.Pre_pi_2013_Kernel
public import proofs.«01_k».proof.Proof.Gen.Pre_pi_2031_Kernel
public import proofs.«01_k».proof.Proof.Gen.Pre_pi_2103_Kernel
public import proofs.«01_k».proof.Proof.Gen.Pre_pi_2130_Kernel
public import proofs.«01_k».proof.Proof.Gen.Pre_pi_2301_Kernel
public import proofs.«01_k».proof.Proof.Gen.Pre_pi_2310_Kernel
public import proofs.«01_k».proof.Proof.Gen.Pre_pi_3012_Kernel
public import proofs.«01_k».proof.Proof.Gen.Pre_pi_3021_Kernel
public import proofs.«01_k».proof.Proof.Gen.Pre_pi_3102_Kernel
public import proofs.«01_k».proof.Proof.Gen.Pre_pi_3120_Kernel
public import proofs.«01_k».proof.Proof.Gen.Pre_pi_3201_Kernel
public import proofs.«01_k».proof.Proof.Gen.Pre_pi_3210_Kernel
public import proofs.«01_k».proof.Proof.Gen.Pre_pi_0123_ReferenceIdeal
public import proofs.«01_k».proof.Proof.Gen.Pre_pi_0132_ReferenceIdeal
public import proofs.«01_k».proof.Proof.Gen.Pre_pi_0213_ReferenceIdeal
public import proofs.«01_k».proof.Proof.Gen.Pre_pi_0231_ReferenceIdeal
public import proofs.«01_k».proof.Proof.Gen.Pre_pi_0312_ReferenceIdeal
public import proofs.«01_k».proof.Proof.Gen.Pre_pi_0321_ReferenceIdeal
public import proofs.«01_k».proof.Proof.Gen.Pre_pi_1023_ReferenceIdeal
public import proofs.«01_k».proof.Proof.Gen.Pre_pi_1032_ReferenceIdeal
public import proofs.«01_k».proof.Proof.Gen.Pre_pi_1203_ReferenceIdeal
public import proofs.«01_k».proof.Proof.Gen.Pre_pi_1230_ReferenceIdeal
public import proofs.«01_k».proof.Proof.Gen.Pre_pi_1302_ReferenceIdeal
public import proofs.«01_k».proof.Proof.Gen.Pre_pi_1320_ReferenceIdeal
public import proofs.«01_k».proof.Proof.Gen.Pre_pi_2013_ReferenceIdeal
public import proofs.«01_k».proof.Proof.Gen.Pre_pi_2031_ReferenceIdeal
public import proofs.«01_k».proof.Proof.Gen.Pre_pi_2103_ReferenceIdeal
public import proofs.«01_k».proof.Proof.Gen.Pre_pi_2130_ReferenceIdeal
public import proofs.«01_k».proof.Proof.Gen.Pre_pi_2301_ReferenceIdeal
public import proofs.«01_k».proof.Proof.Gen.Pre_pi_2310_ReferenceIdeal
public import proofs.«01_k».proof.Proof.Gen.Pre_pi_3012_ReferenceIdeal
public import proofs.«01_k».proof.Proof.Gen.Pre_pi_3021_ReferenceIdeal
public import proofs.«01_k».proof.Proof.Gen.Pre_pi_3102_ReferenceIdeal
public import proofs.«01_k».proof.Proof.Gen.Pre_pi_3120_ReferenceIdeal
public import proofs.«01_k».proof.Proof.Gen.Pre_pi_3201_ReferenceIdeal
public import proofs.«01_k».proof.Proof.Gen.Pre_pi_3210_ReferenceIdeal
public import proofs.«01_k».proof.Proof.Claims

@[expose] public section

noncomputable section

namespace Cert.Proof

open Idealize.ShloMosaic Idealize.SL.Sem

set_option maxHeartbeats 4000000 in
set_option maxRecDepth 4000 in
/-- Everything the certificate claims, the facts of the programs and conditions first. -/
theorem claim : Cert.Claim := by
  refine ⟨
  Cert.Kernel.Gen.facts,
  Cert.KernelIdeal.Gen.facts,
  Cert.ReferenceIdeal.Gen.facts,
  Cert.Pre_pi_0123_Kernel.Gen.facts,
  Cert.Pre_pi_0132_Kernel.Gen.facts,
  Cert.Pre_pi_0213_Kernel.Gen.facts,
  Cert.Pre_pi_0231_Kernel.Gen.facts,
  Cert.Pre_pi_0312_Kernel.Gen.facts,
  Cert.Pre_pi_0321_Kernel.Gen.facts,
  Cert.Pre_pi_1023_Kernel.Gen.facts,
  Cert.Pre_pi_1032_Kernel.Gen.facts,
  Cert.Pre_pi_1203_Kernel.Gen.facts,
  Cert.Pre_pi_1230_Kernel.Gen.facts,
  Cert.Pre_pi_1302_Kernel.Gen.facts,
  Cert.Pre_pi_1320_Kernel.Gen.facts,
  Cert.Pre_pi_2013_Kernel.Gen.facts,
  Cert.Pre_pi_2031_Kernel.Gen.facts,
  Cert.Pre_pi_2103_Kernel.Gen.facts,
  Cert.Pre_pi_2130_Kernel.Gen.facts,
  Cert.Pre_pi_2301_Kernel.Gen.facts,
  Cert.Pre_pi_2310_Kernel.Gen.facts,
  Cert.Pre_pi_3012_Kernel.Gen.facts,
  Cert.Pre_pi_3021_Kernel.Gen.facts,
  Cert.Pre_pi_3102_Kernel.Gen.facts,
  Cert.Pre_pi_3120_Kernel.Gen.facts,
  Cert.Pre_pi_3201_Kernel.Gen.facts,
  Cert.Pre_pi_3210_Kernel.Gen.facts,
  Cert.Pre_pi_0123_ReferenceIdeal.Gen.facts,
  Cert.Pre_pi_0132_ReferenceIdeal.Gen.facts,
  Cert.Pre_pi_0213_ReferenceIdeal.Gen.facts,
  Cert.Pre_pi_0231_ReferenceIdeal.Gen.facts,
  Cert.Pre_pi_0312_ReferenceIdeal.Gen.facts,
  Cert.Pre_pi_0321_ReferenceIdeal.Gen.facts,
  Cert.Pre_pi_1023_ReferenceIdeal.Gen.facts,
  Cert.Pre_pi_1032_ReferenceIdeal.Gen.facts,
  Cert.Pre_pi_1203_ReferenceIdeal.Gen.facts,
  Cert.Pre_pi_1230_ReferenceIdeal.Gen.facts,
  Cert.Pre_pi_1302_ReferenceIdeal.Gen.facts,
  Cert.Pre_pi_1320_ReferenceIdeal.Gen.facts,
  Cert.Pre_pi_2013_ReferenceIdeal.Gen.facts,
  Cert.Pre_pi_2031_ReferenceIdeal.Gen.facts,
  Cert.Pre_pi_2103_ReferenceIdeal.Gen.facts,
  Cert.Pre_pi_2130_ReferenceIdeal.Gen.facts,
  Cert.Pre_pi_2301_ReferenceIdeal.Gen.facts,
  Cert.Pre_pi_2310_ReferenceIdeal.Gen.facts,
  Cert.Pre_pi_3012_ReferenceIdeal.Gen.facts,
  Cert.Pre_pi_3021_ReferenceIdeal.Gen.facts,
  Cert.Pre_pi_3102_ReferenceIdeal.Gen.facts,
  Cert.Pre_pi_3120_ReferenceIdeal.Gen.facts,
  Cert.Pre_pi_3201_ReferenceIdeal.Gen.facts,
  Cert.Pre_pi_3210_ReferenceIdeal.Gen.facts, ?_⟩
  and_intros
  all_goals first
    | exact trivial
    | exact fun m ρ h => Cert.Exchange.words_frame (by decide +kernel) m ρ h
    | exact fun m ρ h => Cert.Exchange.kernel_frame (by decide +kernel) m ρ h
    | exact fun m ρ _ => Cert.Exchange.reference_frame m ρ
    | exact fun m ρ m' ρ' h ha => Cert.Exchange.same_value (by decide +kernel) m ρ m' ρ' h ha

end Cert.Proof

end
